-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_and_labels [hPre_logits_and_labels : Cert.Pre_logits_and_labels.Facts] (m : (ℓ : Loc Cert.KernelIdeal.nD Cert.KernelIdeal.τ Cert.KernelIdeal.sig) → Buf (Elt Ideal) ℓ) : Prop :=
  ∀ c : Dev Cert.KernelIdeal.nD,
    (Cert.Pre_logits_and_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_logits_and_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_and_labels [hPre_logits_and_labels : Cert.Pre_logits_and_labels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_and_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_logits_and_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_logits_and_labels [hKernelIdeal : Cert.KernelIdeal.Facts] [hPre_logits_and_labels : Cert.Pre_logits_and_labels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_and_labels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_logits_and_labels [hReferenceIdeal : Cert.ReferenceIdeal.Facts] [hPre_logits_and_labels : Cert.Pre_logits_and_labels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_and_labels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_logits_and_labels [hKernelIdeal : Cert.KernelIdeal.Facts] [hReferenceIdeal : Cert.ReferenceIdeal.Facts] [hPre_logits_and_labels : Cert.Pre_logits_and_labels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_and_labels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_logits_and_labels : Cert.Pre_logits_and_labels.Facts),
    quiescent_Kernel (hKernel := hKernel)
    ∧ quiescent_KernelIdeal (hKernelIdeal := hKernelIdeal)
    ∧ quiescent_KernelIdeal_pre_logits_and_labels (hKernelIdeal := hKernelIdeal) (hPre_logits_and_labels := hPre_logits_and_labels)
    ∧ quiescent_ReferenceIdeal (hReferenceIdeal := hReferenceIdeal)
    ∧ quiescent_ReferenceIdeal_pre_logits_and_labels (hReferenceIdeal := hReferenceIdeal) (hPre_logits_and_labels := hPre_logits_and_labels)
    ∧ preserves_Kernel_KernelIdeal
    ∧ algebraic_KernelIdeal_ReferenceIdeal_pre_logits_and_labels (hKernelIdeal := hKernelIdeal) (hReferenceIdeal := hReferenceIdeal) (hPre_logits_and_labels := hPre_logits_and_labels)
-- ==== Pre_logits_and_labels.lean ====
abbrev S16384x4096 : Shape := ⟨2, ![16384, 4096]⟩
abbrev S16384 : Shape := ⟨1, ![16384]⟩
abbrev S_ : Shape := ⟨0, ![]⟩

class Facts : Prop where
  bcast_S_S16384x4096 : S_.BroadcastsInDim S16384x4096 (![] : Fin 0 → Fin S16384x4096.rank)
  bcast_S_S16384 : S_.BroadcastsInDim S16384 (![] : Fin 0 → Fin S16384.rank)

variable [Facts]

def fn {F : FTy → Type} [FloatOps F] (main_arg0 : FVec F S16384x4096 .f32) (main_arg1 : IVec S16384 32) (main_arg2 : IVec S16384 32) : IVec S16384x4096 1 × IVec S16384 1 :=
  let main_cst : FVec F S_ .f32 := constant S_ .f32 0x7F800000#32
  let main_v0 : FVec F S16384x4096 .f32 := broadcastInDim S16384x4096 ![] bcast_S_S16384x4096 main_cst
  let main_v1 : IVec S16384x4096 1 := cmpf .olt main_arg0 main_v0
  let main_c : IVec S_ 32 := constantI S_ 32 4294967295#32
  let main_v2 : IVec S16384 32 := broadcastInDim S16384 ![] bcast_S_S16384 main_c
  let main_v3 : IVec S16384 1 := cmpi .sge main_arg1 main_v2
  let main_c_0 : IVec S_ 32 := constantI S_ 32 4096#32
  let main_v4 : IVec S16384 32 := broadcastInDim S16384 ![] bcast_S_S16384 main_c_0
  let main_v5 : IVec S16384 1 := cmpi .slt main_arg1 main_v4
  let main_v6 : IVec S16384 1 := andi main_v3 main_v5
  (main_v1, main_v6)
-- ==== Kernel.lean ====
abbrev S16384x4096 : Shape := ⟨2, ![16384, 4096]⟩
abbrev S16384 : Shape := ⟨1, ![16384]⟩
abbrev S16384x1 : Shape := ⟨2, ![16384, 1]⟩
abbrev S1x512 : Shape := ⟨2, ![1, 512]⟩
abbrev S128x4096 : Shape := ⟨2, ![128, 4096]⟩
abbrev S128x1 : Shape := ⟨2, ![128, 1]⟩
abbrev S128 : Shape := ⟨1, ![128]⟩
abbrev S128x512 : Shape := ⟨2, ![128, 512]⟩
abbrev S512 : Shape := ⟨1, ![512]⟩

abbrev nBuf : Space → Nat
  | .hbm => 6
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S16384, .i32⟩
  | .hbm, ⟨2, _⟩ => ⟨S16384, .i32⟩
  | .hbm, ⟨3, _⟩ => ⟨S16384x1, .i32⟩
  | .hbm, ⟨4, _⟩ => ⟨S16384x1, .i32⟩
  | .hbm, ⟨5, _⟩ => ⟨S1x512, .f32⟩
  | .local _ .vmem, ⟨0, _⟩ => ⟨S128x4096, .f32⟩
  | .local _ .vmem, ⟨1, _⟩ => ⟨S128x4096, .f32⟩
  | .local _ .vmem, ⟨2, _⟩ => ⟨S128x1, .i32⟩
  | .local _ .vmem, ⟨3, _⟩ => ⟨S128x1, .i32⟩
  | .local _ .vmem, ⟨4, _⟩ => ⟨S128x1, .i32⟩
  | .local _ .vmem, ⟨5, _⟩ => ⟨S128x1, .i32⟩
  | .local _ .vmem, ⟨6, _⟩ => ⟨S1x512, .f32⟩
  | .local _ .vmem, ⟨7, _⟩ => ⟨S1x512, .f32⟩
  | .local _ .vmem, ⟨8, _⟩ => ⟨S1x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v408 : BitVec 1 := Scalar.cmpi .eq arg0 c127_i32
  let v409 : BitVec 32 := Scalar.extui v408
  let c0_i32_100 : BitVec 32 := 0#32
  let v410 : BitVec 1 := Scalar.cmpi .ne v409 c0_i32_100
  v410

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S16384x4096 : Shape := ⟨2, ![16384, 4096]⟩
abbrev S16384 : Shape := ⟨1, ![16384]⟩
abbrev S_ : Shape := ⟨0, ![]⟩
abbrev S21 : Shape := ⟨1, ![21]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩
abbrev S16384x2 : Shape := ⟨2, ![16384, 2]⟩
abbrev S16384x20 : Shape := ⟨2, ![16384, 20]⟩
abbrev S16384x21 : Shape := ⟨2, ![16384, 21]⟩
abbrev S512 : Shape := ⟨1, ![512]⟩
abbrev S1x512 : Shape := ⟨2, ![1, 512]⟩

abbrev nBuf : Space → Nat
  | .hbm => 140
  | .vmem => 0
  | .smem => 0
  | _ => 0

abbrev hbmTy0_0 (i : Nat) : BufTy := match i % 128 with
  | 0 => ⟨S16384x4096, .f32⟩
  | 1 => ⟨S16384, .i32⟩
  | 2 => ⟨S16384, .i32⟩
  | 3 => ⟨S_, .f32⟩
  | 4 => ⟨S21, .f32⟩
  | 5 => ⟨S16384x1, .i32⟩
  | 6 => ⟨S_, .i32⟩
  | 7 => ⟨S16384x1, .i32⟩
  | 8 => ⟨S16384x1, .i1⟩
  | 9 => ⟨S_, .i32⟩
  | 10 => ⟨S16384x1, .i32⟩
  | 11 => ⟨S16384x1, .i32⟩
  | 12 => ⟨S16384x1, .i32⟩
  | 13 => ⟨S16384x1x1, .i32⟩
  | 14 => ⟨S1, .i32⟩
  | 15 => ⟨S_, .i32⟩
  | 16 => ⟨S16384x1x1, .i32⟩
  | 17 => ⟨S16384x1x1, .i1⟩
  | 18 => ⟨S1x1x1, .i32⟩
  | 19 => ⟨S16384x1x1, .i32⟩
  | 20 => ⟨S16384x1x1, .i1⟩
  | 21 => ⟨S16384x1x1, .i1⟩
  | 22 => ⟨S_, .i1⟩
  | 23 => ⟨S16384x1, .i1⟩
  | 24 => ⟨S16384x1, .f32⟩
  | 25 => ⟨S_, .f32⟩
  | 26 => ⟨S16384x1, .f32⟩
  | 27 => ⟨S16384x1, .f32⟩
  | 28 => ⟨S16384, .i32⟩
  | 29 => ⟨S_, .i32⟩
  | 30 => ⟨S16384, .i32⟩
  | 31 => ⟨S16384, .i1⟩
  | 32 => ⟨S_, .i32⟩
  | 33 => ⟨S16384, .i32⟩
  | 34 => ⟨S16384, .i32⟩
  | 35 => ⟨S16384, .i32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S16384x1, .i32⟩
  | 45 => ⟨S16384x2, .i32⟩
  | 46 => ⟨S_, .f32⟩
  | 47 => ⟨S16384, .f32⟩
  | 48 => ⟨S16384x4096, .f32⟩
  | 49 => ⟨S16384x20, .f32⟩
  | 50 => ⟨S16384x20, .i32⟩
  | 51 => ⟨S16384x21, .f32⟩
  | 52 => ⟨S_, .i32⟩
  | 53 => ⟨S16384, .i32⟩
  | 54 => ⟨S16384, .i1⟩
  | 55 => ⟨S_, .i32⟩
  | 56 => ⟨S_, .i32⟩
  | 57 => ⟨S16384, .i32⟩
  | 58 => ⟨S16384, .i32⟩
  | 59 => ⟨S16384, .i32⟩
  | 60 => ⟨S_, .f32⟩
  | 61 => ⟨S16384, .f32⟩
  | 62 => ⟨S_, .f32⟩
  | 63 => ⟨S16384, .f32⟩
  | 64 => ⟨S16384, .f32⟩
  | 65 => ⟨S16384x1, .f32⟩
  | 66 => ⟨S16384x21, .f32⟩
  | 67 => ⟨S16384x21, .f32⟩
  | 68 => ⟨S16384x21, .f32⟩
  | 69 => ⟨S_, .f32⟩
  | 70 => ⟨S16384, .f32⟩
  | 71 => ⟨S16384x1, .f32⟩
  | 72 => ⟨S16384x1, .f32⟩
  | 73 => ⟨S16384x21, .f32⟩
  | 74 => ⟨S16384x21, .f32⟩
  | 75 => ⟨S_, .i32⟩
  | 76 => ⟨S16384, .i32⟩
  | 77 => ⟨S16384, .i1⟩
  | 78 => ⟨S_, .i32⟩
  | 79 => ⟨S16384, .i32⟩
  | 80 => ⟨S16384, .i32⟩
  | 81 => ⟨S16384x1, .i32⟩
  | 82 => ⟨S16384x1, .i32⟩
  | 83 => ⟨S_, .i32⟩
  | 84 => ⟨S16384x1, .i32⟩
  | 85 => ⟨S16384x1, .i1⟩
  | 86 => ⟨S_, .i32⟩
  | 87 => ⟨S16384x1, .i32⟩
  | 88 => ⟨S16384x1, .i32⟩
  | 89 => ⟨S16384x1, .i32⟩
  | 90 => ⟨S16384x1x1, .i32⟩
  | 91 => ⟨S1, .i32⟩
  | 92 => ⟨S_, .i32⟩
  | 93 => ⟨S16384x1x1, .i32⟩
  | 94 => ⟨S16384x1x1, .i1⟩
  | 95 => ⟨S1x1x1, .i32⟩
  | 96 => ⟨S16384x1x1, .i32⟩
  | 97 => ⟨S16384x1x1, .i1⟩
  | 98 => ⟨S16384x1x1, .i1⟩
  | 99 => ⟨S_, .i1⟩
  | 100 => ⟨S16384x1, .i1⟩
  | 101 => ⟨S16384x1, .f32⟩
  | 102 => ⟨S_, .f32⟩
  | 103 => ⟨S16384x1, .f32⟩
  | 104 => ⟨S16384x1, .f32⟩
  | 105 => ⟨S16384, .f32⟩
  | 106 => ⟨S16384, .f32⟩
  | 107 => ⟨S_, .i32⟩
  | 108 => ⟨S16384, .i32⟩
  | 109 => ⟨S16384, .i1⟩
  | 110 => ⟨S_, .i32⟩
  | 111 => ⟨S16384, .i32⟩
  | 112 => ⟨S16384, .i32⟩
  | 113 => ⟨S16384, .i32⟩
  | 114 => ⟨S16384x1, .i32⟩
  | 115 => ⟨S16384, .f32⟩
  | 116 => ⟨S16384, .f32⟩
  | 117 => ⟨S_, .i32⟩
  | 118 => ⟨S16384, .i32⟩
  | 119 => ⟨S16384, .i1⟩
  | 120 => ⟨S_, .f32⟩
  | 121 => ⟨S_, .f32⟩
  | 122 => ⟨S16384, .f32⟩
  | 123 => ⟨S16384, .f32⟩
  | 124 => ⟨S_, .f32⟩
  | 125 => ⟨S512, .f32⟩
  | 126 => ⟨S16384x1, .i32⟩
  | 127 => ⟨S512, .f32⟩
  | _ => ⟨S16384x4096, .f32⟩

abbrev hbmTy0_1 (i : Nat) : BufTy := match i % 128 with
  | 0 => ⟨S_, .f32⟩
  | 1 => ⟨S16384, .f32⟩
  | 2 => ⟨S_, .f32⟩
  | 3 => ⟨S512, .f32⟩
  | 4 => ⟨S16384x1, .i32⟩
  | 5 => ⟨S512, .f32⟩
  | 6 => ⟨S_, .f32⟩
  | 7 => ⟨S_, .f32⟩
  | 8 => ⟨S512, .f32⟩
  | 9 => ⟨S512, .f32⟩
  | 10 => ⟨S512, .f32⟩
  | 11 => ⟨S1x512, .f32⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c_1 : Ref sig .tc := ⟨.hbm, 36, rfl⟩
abbrev main_v9 : Ref sig .tc := ⟨.hbm, 37, rfl⟩
abbrev main_v10 : Ref sig .tc := ⟨.hbm, 38, rfl⟩
abbrev main_c_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_3 : Ref sig .tc := ⟨.hbm, 46, rfl⟩
abbrev main_v17 : Ref sig .tc := ⟨.hbm, 47, rfl⟩
abbrev main_v18 : Ref sig .tc := ⟨.hbm, 48, rfl⟩
abbrev main_values : Ref sig .tc := ⟨.hbm, 49, rfl⟩
abbrev main_indices : Ref sig .tc := ⟨.hbm, 50, rfl⟩
abbrev main_v19 : Ref sig .tc := ⟨.hbm, 51, rfl⟩
abbrev main_c_4 : Ref sig .tc := ⟨.hbm, 52, rfl⟩
abbrev main_v20 : Ref sig .tc := ⟨.hbm, 53, rfl⟩
abbrev main_v21 : Ref sig .tc := ⟨.hbm, 54, rfl⟩
abbrev main_c_5 : Ref sig .tc := ⟨.hbm, 55, rfl⟩
abbrev main_c_6 : Ref sig .tc := ⟨.hbm, 56, rfl⟩
abbrev main_call1_v0 : Ref sig .tc := ⟨.hbm, 57, rfl⟩
abbrev main_call1_v1 : Ref sig .tc := ⟨.hbm, 58, rfl⟩
abbrev main_v22 : Ref sig .tc := ⟨.hbm, 59, rfl⟩
abbrev main_call2_cst : Ref sig .tc := ⟨.hbm, 60, rfl⟩
abbrev main_call2_v0 : Ref sig .tc := ⟨.hbm, 61, rfl⟩
abbrev main_call2_cst_0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_cst_1 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_v23 : Ref sig .tc := ⟨.hbm, 74, rfl⟩
abbrev main_c_7 : Ref sig .tc := ⟨.hbm, 75, rfl⟩
abbrev main_v24 : Ref sig .tc := ⟨.hbm, 76, rfl⟩
abbrev main_v25 : Ref sig .tc := ⟨.hbm, 77, rfl⟩
abbrev main_c_8 : Ref sig .tc := ⟨.hbm, 78, rfl⟩
abbrev main_call3_v0 : Ref sig .tc := ⟨.hbm, 79, rfl⟩
abbrev main_v26 : Ref sig .tc := ⟨.hbm, 80, rfl⟩
abbrev main_v27 : Ref sig .tc := ⟨.hbm, 81, rfl⟩
abbrev main_call4_v0 : Ref sig .tc := ⟨.hbm, 82, rfl⟩
abbrev main_call4_c : Ref sig .tc := ⟨.hbm, 83, rfl⟩
abbrev main_call4_v1 : Ref sig .tc := ⟨.hbm, 84, rfl⟩
abbrev main_call4_v2 : Ref sig .tc := ⟨.hbm, 85, rfl⟩
abbrev main_call4_c_0 : Ref sig .tc := ⟨.hbm, 86, rfl⟩
abbrev main_call4_v3 : Ref sig .tc := ⟨.hbm, 87, rfl⟩
abbrev main_call4_v4 : Ref sig .tc := ⟨.hbm, 88, rfl⟩
abbrev main_call4_v5 : Ref sig .tc := ⟨.hbm, 89, rfl⟩
abbrev main_call4_v6 : Ref sig .tc := ⟨.hbm, 90, rfl⟩
abbrev main_call4_c_1 : Ref sig .tc := ⟨.hbm, 91, rfl⟩
abbrev main_call4_c_2 : Ref sig .tc := ⟨.hbm, 92, rfl⟩
abbrev main_call4_v7 : Ref sig .tc := ⟨.hbm, 93, rfl⟩
abbrev main_call4_v8 : Ref sig .tc := ⟨.hbm, 94, rfl⟩
abbrev main_call4_v9 : Ref sig .tc := ⟨.hbm, 95, rfl⟩
abbrev main_call4_v10 : Ref sig .tc := ⟨.hbm, 96, rfl⟩
abbrev main_call4_v11 : Ref sig .tc := ⟨.hbm, 97, rfl⟩
abbrev main_call4_v12 : Ref sig .tc := ⟨.hbm, 98, rfl⟩
abbrev main_call4_c_3 : Ref sig .tc := ⟨.hbm, 99, rfl⟩
abbrev main_call4_v13 : Ref sig .tc := ⟨.hbm, 100, rfl⟩
abbrev main_call4_v14 : Ref sig .tc := ⟨.hbm, 101, rfl⟩
abbrev main_call4_cst : Ref sig .tc := ⟨.hbm, 102, rfl⟩
abbrev main_call4_v15 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_c_9 : Ref sig .tc := ⟨.hbm, 107, rfl⟩
abbrev main_v31 : Ref sig .tc := ⟨.hbm, 108, rfl⟩
abbrev main_v32 : Ref sig .tc := ⟨.hbm, 109, rfl⟩
abbrev main_c_10 : Ref sig .tc := ⟨.hbm, 110, rfl⟩
abbrev main_v33 : Ref sig .tc := ⟨.hbm, 111, rfl⟩
abbrev main_v34 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩
abbrev main_v38 : Ref sig .tc := ⟨.hbm, 116, rfl⟩
abbrev main_c_11 : Ref sig .tc := ⟨.hbm, 117, rfl⟩
abbrev main_v39 : Ref sig .tc := ⟨.hbm, 118, rfl⟩
abbrev main_v40 : Ref sig .tc := ⟨.hbm, 119, rfl⟩
abbrev main_cst_12 : Ref sig .tc := ⟨.hbm, 120, rfl⟩
abbrev main_call5_v0 : Ref sig .tc := ⟨.hbm, 121, rfl⟩
abbrev main_call5_v1 : Ref sig .tc := ⟨.hbm, 122, rfl⟩
abbrev main_v41 : Ref sig .tc := ⟨.hbm, 123, rfl⟩
abbrev main_cst_13 : Ref sig .tc := ⟨.hbm, 124, rfl⟩
abbrev main_v42 : Ref sig .tc := ⟨.hbm, 125, rfl⟩
abbrev main_v43 : Ref sig .tc := ⟨.hbm, 126, rfl⟩
abbrev main_v44 : Ref sig .tc := ⟨.hbm, 127, rfl⟩
abbrev main_cst_14 : Ref sig .tc := ⟨.hbm, 128, rfl⟩
abbrev main_v45 : Ref sig .tc := ⟨.hbm, 129, rfl⟩
abbrev main_cst_15 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_cst_16 : Ref sig .tc := ⟨.hbm, 134, rfl⟩
abbrev main_call6_v0 : Ref sig .tc := ⟨.hbm, 135, rfl⟩
abbrev main_call6_v1 : Ref sig .tc := ⟨.hbm, 136, rfl⟩
abbrev main_v49 : Ref sig .tc := ⟨.hbm, 137, rfl⟩
abbrev main_v50 : Ref sig .tc := ⟨.hbm, 138, rfl⟩
abbrev main_v51 : Ref sig .tc := ⟨.hbm, 139, rfl⟩

abbrev nD : Nat := 1
abbrev τ : Topo := Topo.v7x

variable {F : FTy → Type} [FloatOps F]
-- ==== Proof.RefTerm.lean ====
module

public import proofs.«01_k».proof.Proof.Gen.ReferenceIdeal.Run
public import Idealize.ShloMosaic.PureOps.Ideal

@[expose] public section

set_option maxRecDepth 16384

noncomputable section

/-! # The reference's result, cut into named steps -/

namespace Cert.ReferenceIdeal.Work

open Cert.ReferenceIdeal Cert.ReferenceIdeal.Gen Cert.ReferenceIdeal.Value Idealize.ShloMosaic Idealize.ShloMosaic.TcCoe Idealize.SL.Sem

variable {F : FTy → Type} [FloatOps F]

/-- A word, on every row. -/
def rep (k : BitVec 32) : IVec S16384 32 := broadcastInDim S16384 ![] bcast_S_S16384 (constantI S_ 32 k)
/-- A word, on every row of a column. -/
def repCol (k : BitVec 32) : IVec S16384x1 32 := broadcastInDim S16384x1 ![] bcast_S_S16384x1 (constantI S_ 32 k)
/-- Row values as a column. -/
def column {α : Type} (v : S16384.Idx → α) : S16384x1.Idx → α := broadcastInDim S16384x1 ![0] bcast_S16384_S16384x1_0 v

/-- `-1` where the label is the ignore index, else `0`. -/
def flag (L : IVec S16384 32) : IVec S16384 32 := select (cmpi .eq L (rep 4294967295#32)) (rep 4294967295#32) (rep 0#32)
/-- The flag with `-1` replaced by `0`. -/
def safe (L : IVec S16384 32) : IVec S16384 32 := select (cmpi .eq (flag L) (rep 4294967295#32)) (rep 0#32) (flag L)

/-- Column numbers, a negative one counted from the end of `n` columns. -/
def wrapped (n : BitVec 32) (B : IVec S16384x1 32) : IVec S16384x1x1 32 :=
  shapeCast _ (select (cmpi .slt B (repCol 0#32)) (addi B (repCol n)) B) shapeCasts_S16384x1_S16384x1x1
/-- Whether a column number lies between `0` and `n`. -/
def inside (n : BitVec 32) (idx : IVec S16384x1x1 32) : IVec S16384x1 1 :=
  Host.reduce IntOp.andi (andi (cmpi .sge idx (broadcastInDim S16384x1x1 ![] bcast_S_S16384x1x1 (constantI S_ 32 0#32)))
    (cmpi .sle idx (broadcastInDim S16384x1x1 ![0, 1, 2] bcast_S1x1x1_S16384x1x1_0_1_2 (broadcastInDim S1x1x1 ![2] bcast_S1_S1x1x1_2 (constantI S1 32 n)))))
    (constantI S_ 1 1#1) reducesTo_S16384x1x1_S16384x1_d2 h_S_
/-- The marker of a column number out of range. -/
def bad : FVec F S16384x1 .f32 := broadcastInDim S16384x1 ![] bcast_S_S16384x1 (constant S_ .f32 0x7FC00000#32)

/-- The logit under each row's label. -/
def takeLogit (X : FVec F S16384x4096 .f32) (L : IVec S16384 32) : FVec F S16384x1 .f32 :=
  select (inside 4095#32 (wrapped 4096#32 (column L)))
    (Host.gather gather_S16384x4096_S16384x1x1_S16384x1_n_1_0_0_1_2_11 X (wrapped 4096#32 (column L))) bad

/-- The cells the masking writes: each row's number and its label. -/
def cells (L : IVec S16384 32) : IVec S16384x2 32 :=
  concatenate S16384x2 1 [⟨S16384x1, column (select (cmpi .slt (iotaInDim S16384 32 0) (rep 0#32)) (addi (iotaInDim S16384 32 0) (rep 16384#32)) (iotaInDim S16384 32 0))⟩,
    ⟨S16384x1, column (select (cmpi .slt L (rep 0#32)) (addi L (rep 4096#32)) L)⟩] concatenates_S16384x1_S16384x1_S16384x2_d1
/-- The logits, each row's true one replaced. -/
def maskedX (X : FVec F S16384x4096 .f32) (L : IVec S16384 32) : FVec F S16384x4096 .f32 :=
  Host.scatter scatter_S16384x4096_S16384x2_S16384_n_01_01_1 (fun _ b => b) X (cells L)
    (broadcastInDim S16384 ![] bcast_S_S16384 (constant S_ .f32 0xC61C3C00#32))
/-- The twenty greatest of each row. -/
def best (W : FVec F S16384x4096 .f32) : FVec F S16384x20 .f32 := (Host.topK S16384x20 1 (FloatOps.cmpfTotal .gt) W sliceFits_S16384x4096_S16384x20).1
/-- The true logit, then the twenty greatest of the others. -/
def kept (X : FVec F S16384x4096 .f32) (L : IVec S16384 32) : FVec F S16384x21 .f32 :=
  concatenate S16384x21 1 [⟨S16384x1, takeLogit X L⟩, ⟨S16384x20, best (maskedX X L)⟩] concatenates_S16384x1_S16384x20_S16384x21_d1

/-- Each row's greatest. -/
def peak (N : FVec F S16384x21 .f32) : FVec F S16384 .f32 :=
  maximumf (broadcastInDim S16384 ![] bcast_S_S16384 (constant S_ .f32 0xFF800000#32)) (Host.reduce FloatOps.maximumf N (constant S_ .f32 0xFF800000#32) reducesTo_S16384x21_S16384_d1 h_S_)
/-- Each row less its greatest. -/
def shifted (N : FVec F S16384x21 .f32) : FVec F S16384x21 .f32 :=
  subf N (broadcastInDim S16384x21 ![0, 1] bcast_S16384x1_S16384x21_0_1 (column (peak N)))
/-- The logarithm of the softmax of each row. -/
def logSoft (N : FVec F S16384x21 .f32) : FVec F S16384x21 .f32 :=
  subf (shifted N) (broadcastInDim S16384x21 ![0, 1] bcast_S16384x1_S16384x21_0_1
    (Host.log (column (Host.reduceAdd (Host.exp (shifted N)) (constant S_ .f32 0x00000000#32) reducesTo_S16384x21_S16384_d1 h_S_))))
/-- Each row's entry in the column its safe label names. -/
def picked (P : FVec F S16384x21 .f32) (L : IVec S16384 32) : FVec F S16384 .f32 :=
  shapeCast _ (select (inside 20#32 (wrapped 21#32 (id (column (safe L)))))
    (Host.gather gather_S16384x21_S16384x1x1_S16384x1_n_1_0_0_1_2_11 P (wrapped 21#32 (id (column (safe L))))) bad) shapeCasts_S16384x1_S16384
/-- Each row's class weight. -/
def weight (L : IVec S16384 32) : FVec F S16384 .f32 :=
  Host.gather gather_S21_S16384x1_S16384_n_0_n_n_0_1_1 (broadcastInDim S21 ![] bcast_S_S21 (constant S_ .f32 0x3F800000#32))
    (column (select (cmpi .slt (safe L) (rep 0#32)) (addi (safe L) (rep 21#32)) (safe L)))
/-- Each row's loss. -/
def lossRef (X : FVec F S16384x4096 .f32) (L : IVec S16384 32) : FVec F S16384 .f32 :=
  select (cmpi .eq (flag L) (rep 4294967295#32)) (broadcastInDim S16384 ![] bcast_S_S16384 (id (constant S_ .f32 0x00000000#32)))
    (mulf (Host.negf (picked (logSoft (kept X L)) L)) (weight L))
/-- A row function summed per segment. -/
def perSegment (I : IVec S16384 32) (v : FVec F S16384 .f32) : FVec F S512 .f32 :=
  Host.scatterAdd scatter_S512_S16384x1_S16384_n_0_0_1 (broadcastInDim S512 ![] bcast_S_S512 (constant S_ .f32 0x00000000#32)) (column I) v
/-- The reference's result. -/
def result (X : FVec F S16384x4096 .f32) (L I : IVec S16384 32) : FVec F S1x512 .f32 :=
  shapeCast _ (Host.divf (perSegment I (lossRef X L))
    (maximumf (broadcastInDim S512 ![] bcast_S_S512 (id (constant S_ .f32 0x3F800000#32)))
      (perSegment I (broadcastInDim S16384 ![] bcast_S_S16384 (constant S_ .f32 0x3F800000#32))))) shapeCasts_S512_S1x512

/-- What the run leaves is the composition of the steps. -/
theorem res_eq (m : (ℓ : Loc nD τ sig) → Buf (Elt F) ℓ) (c : Dev nD) :
    res_main_v51 m c = result (m ((c.tc : Thread nD τ).loc main_arg0)) (m ((c.tc : Thread nD τ).loc main_arg1)) (m ((c.tc : Thread nD τ).loc main_arg2)) := by
  unfold res_main_v51
  rfl

end Cert.ReferenceIdeal.Work
-- ==== Proof.Rounds.lean ====
module

public import proofs.«01_k».proof.Proof.Gen.KernelIdeal.Skeleton

@[expose] public section

set_option maxRecDepth 16384

noncomputable section

open Idealize.ShloMosaic Idealize.ShloMosaic.TcCoe Idealize.SL.Sem

namespace Cert.KernelIdeal.Work

open Cert.KernelIdeal Cert.KernelIdeal.Gen

variable {F : FTy → Type} [FloatOps F]

/-- The greatest entry of each row, as a column. -/
def rowMax (w : FVec F S128x4096 .f32) : FVec F S128x1 .f32 :=
  shapeCast S128x1 (multiReduction .maximumf [1] S128 w 0xFF800000#32 reduces_S128x4096_S128 (.inl rfl) rfl) shapeCasts_S128_S128x1

/-- Where each row holds its greatest entry. -/
def atMax (w : FVec F S128x4096 .f32) : IVec S128x4096 1 :=
  cmpf .oeq w (broadcastTo S128x4096 (rowMax w) broadcasts_S128x1_S128x4096)

/-- How often each row holds its greatest entry, as a column. -/
def maxCount (w : FVec F S128x4096 .f32) : FVec F S128x1 .f32 :=
  shapeCast S128x1 (multiReduction .add [1] S128 (sitofp .f32 (extui 32 (atMax w) natLt_1_32)) 0x00000000#32 reduces_S128x4096_S128 (.inl rfl) rfl) shapeCasts_S128_S128x1

/-- How many of the greatest entries a round takes: all of them, or as many as are missing up to twenty. -/
def taken (w : FVec F S128x4096 .f32) (cum : FVec F S128x1 .f32) : FVec F S128x1 .f32 :=
  minimumf (maxCount w) (subf (broadcast S128x1 (Scalar.ofBits .f32 0x41A00000#32)) cum)

/-- The rows after a round: every greatest entry replaced by minus infinity. -/
def drop (w : FVec F S128x4096 .f32) : FVec F S128x4096 .f32 :=
  select (atMax w) (broadcast S128x4096 (Scalar.ofBits .f32 0xFF800000#32)) w

/-- The rows after `n` rounds. -/
def work (w : FVec F S128x4096 .f32) : ℕ → FVec F S128x4096 .f32
  | 0 => w
  | n + 1 => drop (work w n)

/-- How many entries of each row the first `n` rounds have taken. -/
def cum (w : FVec F S128x4096 .f32) : ℕ → FVec F S128x1 .f32
  | 0 => broadcast S128x1 (Scalar.ofBits .f32 0x00000000#32)
  | n + 1 => addf (cum w n) (taken (work w n) (cum w n))

/-- The running sum of exponentials after `n` rounds, started at `s`, shifted by `M`. -/
def acc (M s : FVec F S128x1 .f32) (w : FVec F S128x4096 .f32) : ℕ → FVec F S128x1 .f32
  | 0 => s
  | n + 1 => addf (acc M s w n) (mulf (taken (work w n) (cum w n)) (exp (subf (rowMax (work w n)) M)))

/-- The loss column of one block of 128 rows, over its logits and its labels: twenty rounds over the masked rows. -/
def lossCol (x : Vec F S128x4096 .f32) (l : Vec F S128x1 .i32) : FVec F S128x1 .f32 :=
  select (cmpi .eq (k0_pay7 (F := F) l) (broadcast S128x1 4294967295#32))
    (broadcast S128x1 (Scalar.ofBits .f32 0x00000000#32))
    (subf (addf (log (acc (k0_pay11 x l) (exp (subf (k0_pay9 x l) (k0_pay11 x l))) (k0_pay10 x l) 20)) (k0_pay11 x l)) (k0_pay9 x l))

section Rounds

variable (M s : FVec F S128x1 .f32) (w : FVec F S128x4096 .f32)

/-- Value 29 of the body is the row after 3 rounds. -/
theorem pay29_eq : k0_pay29 (work w 1) (broadcastTo S128x4096 (rowMax (work w 1)) broadcasts_S128x1_S128x4096) = (work w 3) := rfl
/-- Value 31 of the body is which entries equal the maximum after 3 rounds. -/
theorem pay31_eq : k0_pay31 (work w 1) (broadcastTo S128x4096 (rowMax (work w 1)) broadcasts_S128x1_S128x4096) = (atMax (work w 3)) := rfl
/-- Value 33 of the body is the sum after 4 rounds. -/
theorem pay33_eq : k0_pay33 M (acc M s w 1) (cum w 1) (work w 1) (rowMax (work w 1)) (broadcastTo S128x4096 (rowMax (work w 1)) broadcasts_S128x1_S128x4096) = (acc M s w 4) := rfl
/-- Value 34 of the body is the number taken after 4 rounds. -/
theorem pay34_eq : k0_pay34 (cum w 1) (work w 1) (broadcastTo S128x4096 (rowMax (work w 1)) broadcasts_S128x1_S128x4096) = (cum w 4) := rfl
/-- Value 44 of the body is the sum after 6 rounds. -/
theorem pay44_eq : k0_pay44 M (work w 3) (atMax (work w 3)) (acc M s w 4) (cum w 4) (FloatOps.ofBits FTy.f32 4286578688#32) = (acc M s w 6) := rfl
/-- Value 45 of the body is the number taken after 6 rounds. -/
theorem pay45_eq : k0_pay45 (work w 3) (atMax (work w 3)) (cum w 4) (FloatOps.ofBits FTy.f32 4286578688#32) = (cum w 6) := rfl
/-- Value 46 of the body is the row after 6 rounds. -/
theorem pay46_eq : k0_pay46 (work w 3) (atMax (work w 3)) (FloatOps.ofBits FTy.f32 4286578688#32) = (work w 6) := rfl
/-- Value 47 of the body is the maximum after 6 rounds. -/
theorem pay47_eq : k0_pay47 (work w 3) (atMax (work w 3)) (FloatOps.ofBits FTy.f32 4286578688#32) = (rowMax (work w 6)) := rfl
/-- Value 48 of the body is which entries equal the maximum after 6 rounds. -/
theorem pay48_eq : k0_pay48 (work w 3) (atMax (work w 3)) (FloatOps.ofBits FTy.f32 4286578688#32) = (atMax (work w 6)) := rfl
/-- Value 49 of the body is what the round after 6 rounds takes. -/
theorem pay49_eq : k0_pay49 (work w 3) (atMax (work w 3)) (cum w 4) (FloatOps.ofBits FTy.f32 4286578688#32) = (taken (work w 6) (cum w 6)) := rfl
/-- Value 60 of the body is the sum after 9 rounds. -/
theorem pay60_eq : k0_pay60 M (acc M s w 6) (cum w 6) (work w 6) (rowMax (work w 6)) (atMax (work w 6)) (taken (work w 6) (cum w 6)) = (acc M s w 9) := rfl
/-- Value 61 of the body is the number taken after 9 rounds. -/
theorem pay61_eq : k0_pay61 (cum w 6) (work w 6) (atMax (work w 6)) (taken (work w 6) (cum w 6)) = (cum w 9) := rfl
/-- Value 62 of the body is the row after 9 rounds. -/
theorem pay62_eq : k0_pay62 (work w 6) (atMax (work w 6)) = (work w 9) := rfl
/-- Value 63 of the body is the maximum after 9 rounds. -/
theorem pay63_eq : k0_pay63 (work w 6) (atMax (work w 6)) = (rowMax (work w 9)) := rfl
/-- Value 64 of the body is which entries equal the maximum after 9 rounds. -/
theorem pay64_eq : k0_pay64 (work w 6) (atMax (work w 6)) = (atMax (work w 9)) := rfl
/-- Value 65 of the body is the mask of maxima after 9 rounds, as numbers. -/
theorem pay65_eq : k0_pay65 (work w 6) (atMax (work w 6)) = (sitofp .f32 (extui 32 (atMax (work w 9)) natLt_1_32)) := rfl
/-- Value 77 of the body is the sum after 12 rounds. -/
theorem pay77_eq : k0_pay77 M (acc M s w 9) (cum w 9) (work w 9) (rowMax (work w 9)) (atMax (work w 9)) (sitofp .f32 (extui 32 (atMax (work w 9)) natLt_1_32)) = (acc M s w 12) := rfl
/-- Value 78 of the body is the number taken after 12 rounds. -/
theorem pay78_eq : k0_pay78 (cum w 9) (work w 9) (atMax (work w 9)) (sitofp .f32 (extui 32 (atMax (work w 9)) natLt_1_32)) = (cum w 12) := rfl
/-- Value 79 of the body is the row after 12 rounds. -/
theorem pay79_eq : k0_pay79 (work w 9) (atMax (work w 9)) = (work w 12) := rfl
/-- Value 80 of the body is the maximum after 12 rounds, as a vector. -/
theorem pay80_eq : k0_pay80 (work w 9) (atMax (work w 9)) = (multiReduction .maximumf [1] S128 (work w 12) 0xFF800000#32 reduces_S128x4096_S128 (.inl rfl) rfl) := rfl
/-- Value 89 of the body is the number taken after 14 rounds. -/
theorem pay89_eq : k0_pay89 (cum w 12) (work w 12) (multiReduction .maximumf [1] S128 (work w 12) 0xFF800000#32 reduces_S128x4096_S128 (.inl rfl) rfl) = (cum w 14) := rfl
/-- Value 90 of the body is the row after 14 rounds. -/
theorem pay90_eq : k0_pay90 (work w 12) (multiReduction .maximumf [1] S128 (work w 12) 0xFF800000#32 reduces_S128x4096_S128 (.inl rfl) rfl) = (work w 14) := rfl
/-- Value 92 of the body is which entries equal the maximum after 14 rounds. -/
theorem pay92_eq : k0_pay92 (work w 12) (multiReduction .maximumf [1] S128 (work w 12) 0xFF800000#32 reduces_S128x4096_S128 (.inl rfl) rfl) = (atMax (work w 14)) := rfl
/-- Value 93 of the body is what the round after 14 rounds takes. -/
theorem pay93_eq : k0_pay93 (cum w 12) (work w 12) (multiReduction .maximumf [1] S128 (work w 12) 0xFF800000#32 reduces_S128x4096_S128 (.inl rfl) rfl) = (taken (work w 14) (cum w 14)) := rfl
/-- Value 94 of the body is the sum after 15 rounds. -/
theorem pay94_eq : k0_pay94 M (acc M s w 12) (cum w 12) (work w 12) (multiReduction .maximumf [1] S128 (work w 12) 0xFF800000#32 reduces_S128x4096_S128 (.inl rfl) rfl) = (acc M s w 15) := rfl
/-- Value 105 of the body is the sum after 17 rounds. -/
theorem pay105_eq : k0_pay105 M (cum w 14) (work w 14) (atMax (work w 14)) (taken (work w 14) (cum w 14)) (acc M s w 15) = (acc M s w 17) := rfl
/-- Value 106 of the body is the number taken after 17 rounds. -/
theorem pay106_eq : k0_pay106 (cum w 14) (work w 14) (atMax (work w 14)) (taken (work w 14) (cum w 14)) = (cum w 17) := rfl
/-- Value 107 of the body is the row after 17 rounds. -/
theorem pay107_eq : k0_pay107 (work w 14) (atMax (work w 14)) = (work w 17) := rfl
/-- Value 108 of the body is the maximum after 17 rounds. -/
theorem pay108_eq : k0_pay108 (work w 14) (atMax (work w 14)) = (rowMax (work w 17)) := rfl
/-- Value 109 of the body is which entries equal the maximum after 17 rounds. -/
theorem pay109_eq : k0_pay109 (work w 14) (atMax (work w 14)) = (atMax (work w 17)) := rfl
/-- Value 110 of the body is the number of maxima after 17 rounds. -/
theorem pay110_eq : k0_pay110 (work w 14) (atMax (work w 14)) = (maxCount (work w 17)) := rfl

/-- Value 112 of the body is the loss column after twenty rounds. -/
theorem pay112_eq (v5 : IVec S128x1 32) (t : FVec F S128x1 .f32) :
    k0_pay112 v5 t M (acc M s w 17) (cum w 17) (work w 17) (rowMax (work w 17)) (atMax (work w 17)) (maxCount (work w 17)) k0_pay111
      = select (cmpi .eq v5 (broadcast S128x1 4294967295#32)) (broadcast S128x1 (Scalar.ofBits .f32 0x00000000#32))
          (subf (addf (log (acc M s w 20)) M) t) := rfl

end Rounds

section First
variable (x : Vec F S128x4096 .f32) (l : Vec F S128x1 .i32)
/-- Value 16 of the body is the sum after 1 rounds. -/
theorem pay16_eq : k0_pay16 x l = acc (k0_pay11 x l) (exp (subf (k0_pay9 x l) (k0_pay11 x l))) (k0_pay10 x l) 1 := rfl
/-- Value 17 of the body is the number taken after 1 rounds. -/
theorem pay17_eq : k0_pay17 x l = cum (k0_pay10 x l) 1 := rfl
/-- Value 18 of the body is the row after 1 rounds. -/
theorem pay18_eq : k0_pay18 x l = work (k0_pay10 x l) 1 := rfl
/-- Value 19 of the body is the maximum after 1 rounds. -/
theorem pay19_eq : k0_pay19 x l = rowMax (work (k0_pay10 x l) 1) := rfl
/-- Value 20 of the body is the maximum after 1 rounds, along the row. -/
theorem pay20_eq : k0_pay20 x l = broadcastTo S128x4096 (rowMax (work (k0_pay10 x l) 1)) broadcasts_S128x1_S128x4096 := rfl
end First

end Cert.KernelIdeal.Work
-- ==== Proof.KBody.lean ====
module

public import proofs.«01_k».proof.Proof.Gen.KernelIdeal.Value
public import proofs.«01_k».proof.Proof.Rounds
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Work

open Cert.KernelIdeal Cert.KernelIdeal.Gen Cert.KernelIdeal.Value

variable {F : FTy → Type} [FloatOps F]

/-- The offsets zero, as the constant function. -/
theorem hz : (![0, 0] : Fin 2 → Nat) = fun _ => 0 := funext fun a => by fin_cases a <;> rfl

/-- After the first block the counts hold that block's counts, added to zero. -/
theorem cnt_A (c : Dev nD) (i : grid0.Coords) (a1 : Memref sig .tc .vmem S128x4096 .f32) (h1 : a1.IsWhole)
    (a2 : Memref sig .tc .vmem S128x1 .i32) (h2 : a2.IsWhole) (a3 : Memref sig .tc .vmem S128x1 .i32) (h3 : a3.IsWhole)
    (a4 : Memref sig .tc .vmem S1x512 .f32) (h4 : a4.IsWhole) (a5 : Memref sig .tc .vmem S1x512 .f32) (h5 : a5.IsWhole)
    (a6 : Memref sig .tc .vmem S1x512 .f32) (h6 : a6.IsWhole)
    (hc : cond0_0 i) (hc' : ¬cond0_1 i) (x0 : Vec F S128x4096 .f32) (x1 x2 : Vec F S128x1 .i32) :
    sout0_A_1 c i a1 h1 a2 h2 a3 h3 a4 h4 a5 h5 a6 h6 hc hc' x0 x1 x2 = k0_pay3 x2 k0_pay6 := by
  unfold sout0_A_1
  rw [View.read_writes_eq_canon _ _ _ (scover0_A_1 c i a1 h1 a2 h2 a3 h3 a4 h4 a5 h5 a6 h6 hc hc' x0 x1 x2)]
  unfold kernelRun0_A
  dsimp only
  sl_unfold_words
  rw [View.canon_cons_unit_zero (S := S1x512) hz, View.readCov_unit_zero (S := S1x512) _ hz]
  simp only [View.readAt_eq_ld, h1.read_unread, h2.read_unread, h3.read_unread, h5.read_unread, h6.read_unread, View.ld_unit_zero (S := S128x1) hz, View.ld_unit_zero (S := S128x4096) hz, View.ld_unit_zero (S := S1x512) hz]

/-- After the first block the sums hold that block's sums, added to zero. -/
theorem sum_A (c : Dev nD) (i : grid0.Coords) (a1 : Memref sig .tc .vmem S128x4096 .f32) (h1 : a1.IsWhole)
    (a2 : Memref sig .tc .vmem S128x1 .i32) (h2 : a2.IsWhole) (a3 : Memref sig .tc .vmem S128x1 .i32) (h3 : a3.IsWhole)
    (a4 : Memref sig .tc .vmem S1x512 .f32) (h4 : a4.IsWhole) (a5 : Memref sig .tc .vmem S1x512 .f32) (h5 : a5.IsWhole)
    (a6 : Memref sig .tc .vmem S1x512 .f32) (h6 : a6.IsWhole)
    (hc : cond0_0 i) (hc' : ¬cond0_1 i) (x0 : Vec F S128x4096 .f32) (x1 x2 : Vec F S128x1 .i32) :
    sout0_A_0 c i a1 h1 a2 h2 a3 h3 a4 h4 a5 h5 a6 h6 hc hc' x0 x1 x2 = k0_pay2 (lossCol x0 x1) x2 k0_pay5 := by
  unfold sout0_A_0
  rw [View.read_writes_eq_canon _ _ _ (scover0_A_0 c i a1 h1 a2 h2 a3 h3 a4 h4 a5 h5 a6 h6 hc hc' x0 x1 x2)]
  unfold kernelRun0_A
  dsimp only
  sl_unfold_words
  rw [View.canon_cons_unit_zero (S := S1x512) hz, View.readCov_unit_zero (S := S1x512) _ hz]
  simp only [View.readAt_eq_ld, h1.read_unread, h2.read_unread, h3.read_unread, h5.read_unread, h6.read_unread, View.ld_unit_zero (S := S128x1) hz, View.ld_unit_zero (S := S128x4096) hz, View.ld_unit_zero (S := S1x512) hz]
  simp only [pay16_eq, pay17_eq, pay18_eq, pay19_eq, pay20_eq, pay29_eq, pay31_eq, pay33_eq, pay34_eq, pay44_eq, pay45_eq, pay46_eq, pay47_eq, pay48_eq, pay49_eq, pay60_eq, pay61_eq, pay62_eq, pay63_eq, pay64_eq, pay65_eq, pay77_eq, pay78_eq, pay79_eq, pay80_eq, pay89_eq, pay90_eq, pay92_eq, pay93_eq, pay94_eq, pay105_eq, pay106_eq, pay107_eq, pay108_eq, pay109_eq, pay110_eq, pay112_eq]
  rfl

/-- A middle block adds its counts to the counts held. -/
theorem cnt_B (c : Dev nD) (i : grid0.Coords) (a1 : Memref sig .tc .vmem S128x4096 .f32) (h1 : a1.IsWhole)
    (a2 : Memref sig .tc .vmem S128x1 .i32) (h2 : a2.IsWhole) (a3 : Memref sig .tc .vmem S128x1 .i32) (h3 : a3.IsWhole)
    (a4 : Memref sig .tc .vmem S1x512 .f32) (h4 : a4.IsWhole) (a5 : Memref sig .tc .vmem S1x512 .f32) (h5 : a5.IsWhole)
    (a6 : Memref sig .tc .vmem S1x512 .f32) (h6 : a6.IsWhole)
    (hc : ¬cond0_0 i) (hc' : ¬cond0_1 i) (x0 : Vec F S128x4096 .f32) (x1 x2 : Vec F S128x1 .i32) (u v : Vec F S1x512 .f32) :
    sout0_B_1 c i a1 h1 a2 h2 a3 h3 a4 h4 a5 h5 a6 h6 hc hc' x0 x1 x2 u v = k0_pay3 x2 v := by
  unfold sout0_B_1
  rw [View.read_writes_eq_canon _ _ _ (scover0_B_1 c i a1 h1 a2 h2 a3 h3 a4 h4 a5 h5 a6 h6 hc hc' x0 x1 x2 u v)]
  unfold kernelRun0_B
  dsimp only
  sl_unfold_words
  rw [View.canon_unit_zero hz]
  simp only [View.readAt_eq_ld, h1.read_unread, h2.read_unread, h3.read_unread, h5.read_unread, h6.read_unread, View.ld_unit_zero (S := S128x1) hz, View.ld_unit_zero (S := S128x4096) hz, View.ld_unit_zero (S := S1x512) hz]

/-- A middle block adds its sums to the sums held. -/
theorem sum_B (c : Dev nD) (i : grid0.Coords) (a1 : Memref sig .tc .vmem S128x4096 .f32) (h1 : a1.IsWhole)
    (a2 : Memref sig .tc .vmem S128x1 .i32) (h2 : a2.IsWhole) (a3 : Memref sig .tc .vmem S128x1 .i32) (h3 : a3.IsWhole)
    (a4 : Memref sig .tc .vmem S1x512 .f32) (h4 : a4.IsWhole) (a5 : Memref sig .tc .vmem S1x512 .f32) (h5 : a5.IsWhole)
    (a6 : Memref sig .tc .vmem S1x512 .f32) (h6 : a6.IsWhole)
    (hc : ¬cond0_0 i) (hc' : ¬cond0_1 i) (x0 : Vec F S128x4096 .f32) (x1 x2 : Vec F S128x1 .i32) (u v : Vec F S1x512 .f32) :
    sout0_B_0 c i a1 h1 a2 h2 a3 h3 a4 h4 a5 h5 a6 h6 hc hc' x0 x1 x2 u v = k0_pay2 (lossCol x0 x1) x2 u := by
  unfold sout0_B_0
  rw [View.read_writes_eq_canon _ _ _ (scover0_B_0 c i a1 h1 a2 h2 a3 h3 a4 h4 a5 h5 a6 h6 hc hc' x0 x1 x2 u v)]
  unfold kernelRun0_B
  dsimp only
  sl_unfold_words
  rw [View.canon_unit_zero hz]
  simp only [View.readAt_eq_ld, h1.read_unread, h2.read_unread, h3.read_unread, h5.read_unread, h6.read_unread, View.ld_unit_zero (S := S128x1) hz, View.ld_unit_zero (S := S128x4096) hz, View.ld_unit_zero (S := S1x512) hz]
  simp only [pay16_eq, pay17_eq, pay18_eq, pay19_eq, pay20_eq, pay29_eq, pay31_eq, pay33_eq, pay34_eq, pay44_eq, pay45_eq, pay46_eq, pay47_eq, pay48_eq, pay49_eq, pay60_eq, pay61_eq, pay62_eq, pay63_eq, pay64_eq, pay65_eq, pay77_eq, pay78_eq, pay79_eq, pay80_eq, pay89_eq, pay90_eq, pay92_eq, pay93_eq, pay94_eq, pay105_eq, pay106_eq, pay107_eq, pay108_eq, pay109_eq, pay110_eq, pay112_eq]
  rfl

/-- The last block adds its sums and its counts, and stores their quotient. -/
theorem out_C (c : Dev nD) (i : grid0.Coords) (a1 : Memref sig .tc .vmem S128x4096 .f32) (h1 : a1.IsWhole)
    (a2 : Memref sig .tc .vmem S128x1 .i32) (h2 : a2.IsWhole) (a3 : Memref sig .tc .vmem S128x1 .i32) (h3 : a3.IsWhole)
    (a4 : Memref sig .tc .vmem S1x512 .f32) (h4 : a4.IsWhole) (a5 : Memref sig .tc .vmem S1x512 .f32) (h5 : a5.IsWhole)
    (a6 : Memref sig .tc .vmem S1x512 .f32) (h6 : a6.IsWhole)
    (hc : ¬cond0_0 i) (hc' : cond0_1 i) (x0 : Vec F S128x4096 .f32) (x1 x2 : Vec F S128x1 .i32) (u v : Vec F S1x512 .f32) :
    out0_C_3 c i a1 h1 a2 h2 a3 h3 a4 h4 a5 h5 a6 h6 hc hc' x0 x1 x2 u v = k0_pay4 (k0_pay2 (lossCol x0 x1) x2 u) (k0_pay3 x2 v) := by
  unfold out0_C_3
  rw [View.read_writes_eq_canon _ _ _ (cover0_C_3 c i a1 h1 a2 h2 a3 h3 a4 h4 a5 h5 a6 h6 hc hc' x0 x1 x2 u v)]
  unfold kernelRun0_C
  dsimp only
  sl_unfold_words
  rw [View.canon_unit_zero hz]
  simp only [View.readCov_unit_zero (S := S1x512) _ hz]
  simp only [View.readAt_eq_ld, h1.read_unread, h2.read_unread, h3.read_unread, h5.read_unread, h6.read_unread, View.ld_unit_zero (S := S128x1) hz, View.ld_unit_zero (S := S128x4096) hz, View.ld_unit_zero (S := S1x512) hz]
  simp only [pay16_eq, pay17_eq, pay18_eq, pay19_eq, pay20_eq, pay29_eq, pay31_eq, pay33_eq, pay34_eq, pay44_eq, pay45_eq, pay46_eq, pay47_eq, pay48_eq, pay49_eq, pay60_eq, pay61_eq, pay62_eq, pay63_eq, pay64_eq, pay65_eq, pay77_eq, pay78_eq, pay79_eq, pay80_eq, pay89_eq, pay90_eq, pay92_eq, pay93_eq, pay94_eq, pay105_eq, pay106_eq, pay107_eq, pay108_eq, pay109_eq, pay110_eq, pay112_eq]
  rfl

end Cert.KernelIdeal.Work
-- ==== Proof.RowMath.lean ====
/- The mathematics of one row, over the extended reals: twenty rounds that each take out the greatest entries of a
   row with their multiplicity add up the same terms as the first twenty entries of the row sorted greatest first. -/
module

public import Idealize.ShloMosaic.PureOps.Ideal

@[expose] public section

noncomputable section

namespace Cert.Row

open Finset

variable {n : ℕ}

/-- The greatest entry. -/
def top (w : Fin n → EReal) : EReal := univ.sup w

/-- How often the greatest entry occurs. -/
def count (w : Fin n → EReal) : EReal := ∑ j, if w j = top w then 1 else 0

/-- The row with every greatest entry replaced by `⊥`. -/
def clear (w : Fin n → EReal) : Fin n → EReal := fun j => if w j = top w then ⊥ else w j

/-- The row after `k` rounds. -/
def left (w : Fin n → EReal) : ℕ → Fin n → EReal
  | 0 => w
  | k + 1 => clear (left w k)

/-- How many entries `k` rounds have taken, never more than twenty. -/
def got (w : Fin n → EReal) : ℕ → EReal
  | 0 => 0
  | k + 1 => got w k + min (count (left w k)) (20 - got w k)

/-- What `k` rounds have added to `s`: `f` of each entry taken. -/
def total (f : EReal → EReal) (s : EReal) (w : Fin n → EReal) : ℕ → EReal
  | 0 => s
  | k + 1 => total f s w k + min (count (left w k)) (20 - got w k) * f (top (left w k))

/-! ## The order of the entries does not matter -/

/-- The greatest entry does not depend on the order. -/
theorem top_comp (w : Fin n → EReal) (π : Equiv.Perm (Fin n)) : top (w ∘ π) = top w := by
  unfold top
  apply le_antisymm
  · exact Finset.sup_le fun j _ => Finset.le_sup (f := w) (mem_univ _)
  · refine Finset.sup_le fun j _ => ?_
    have := Finset.le_sup (f := w ∘ π) (mem_univ (π.symm j))
    simpa using this

/-- Nor does the number of greatest entries. -/
theorem count_comp (w : Fin n → EReal) (π : Equiv.Perm (Fin n)) : count (w ∘ π) = count w := by
  unfold count
  rw [top_comp]
  exact Equiv.sum_comp π fun j => if w j = top w then (1 : EReal) else 0

/-- Rounds commute with reordering. -/
theorem left_comp (w : Fin n → EReal) (π : Equiv.Perm (Fin n)) (k : ℕ) : left (w ∘ π) k = left w k ∘ π := by
  induction k with
  | zero => rfl
  | succ k ih =>
    show clear (left (w ∘ π) k) = clear (left w k) ∘ π
    rw [ih]
    funext j
    simp only [clear, top_comp, Function.comp]

/-- The number taken does not depend on the order. -/
theorem got_comp (w : Fin n → EReal) (π : Equiv.Perm (Fin n)) (k : ℕ) : got (w ∘ π) k = got w k := by
  induction k with
  | zero => rfl
  | succ k ih => simp only [got, ih, left_comp, count_comp]

/-- Nor does the sum taken. -/
theorem total_comp (f : EReal → EReal) (s : EReal) (w : Fin n → EReal) (π : Equiv.Perm (Fin n)) (k : ℕ) :
    total f s (w ∘ π) k = total f s w k := by
  induction k with
  | zero => rfl
  | succ k ih => simp only [total, ih, got_comp, left_comp, count_comp, top_comp]

/-! ## One round over a row sorted greatest first -/

/-- The row with its first `p` entries replaced by `⊥`. -/
def cut (y : Fin n → EReal) (p : ℕ) : Fin n → EReal := fun i => if i.val < p then ⊥ else y i

/-- The number of positions from `c` up to `d`. -/
theorem card_between {c d : ℕ} (hd : d ≤ n) : (univ.filter fun i : Fin n => c ≤ i.val ∧ i.val < d).card = d - c := by
  rw [← Nat.card_Ico c d]
  refine Finset.card_bij (fun i _ => i.val) ?_ (fun a _ b _ h => Fin.ext h) ?_
  · intro i hi; simpa using hi
  · intro b hb
    have hb' := Finset.mem_Ico.mp hb
    exact ⟨⟨b, by omega⟩, by simpa using hb', rfl⟩

/-- The count of greatest entries as a number of positions. -/
theorem count_eq_card (w : Fin n → EReal) : count w = ((univ.filter fun j => w j = top w).card : ℕ) := by
  unfold count
  rw [Finset.sum_ite]
  simp

/-- The greatest entry of a sorted row whose first `p` entries are gone is the entry at `p`. -/
theorem top_cut {y : Fin n → EReal} (hy : Antitone y) {p : ℕ} (hp : p < n) : top (cut y p) = y ⟨p, hp⟩ := by
  apply le_antisymm
  · refine Finset.sup_le fun j _ => ?_
    unfold cut
    split
    · exact bot_le
    · exact hy (show p ≤ j.val by omega)
  · have h := Finset.le_sup (f := cut y p) (mem_univ ⟨p, hp⟩)
    rw [show cut y p ⟨p, hp⟩ = y ⟨p, hp⟩ by simp [cut]] at h
    exact h

/-- With everything cut the greatest entry is minus infinity. -/
theorem top_cut_all {y : Fin n → EReal} {p : ℕ} (hp : n ≤ p) : top (cut y p) = ⊥ := by
  apply le_bot_iff.mp
  refine Finset.sup_le fun j _ => ?_
  have : j.val < p := by omega
  simp [cut, this]

/-- One round on a sorted row: it removes a further stretch, at least one entry, all of them equal to the greatest;
    counted together with what was missing to twenty, it takes exactly that stretch. -/
theorem round {y : Fin n → EReal} (hy : Antitone y) (hn : 20 ≤ n) {p : ℕ} (hp : p ≤ n) :
    ∃ q, p ≤ q ∧ q ≤ n ∧ (p < n → p < q) ∧ clear (cut y p) = cut y q
      ∧ (∀ i : Fin n, p ≤ i.val → i.val < q → y i = top (cut y p))
      ∧ min p 20 + min ((univ.filter fun j => cut y p j = top (cut y p)).card) (20 - min p 20) = min q 20 := by
  classical
  by_cases hpn : p < n
  swap
  · have hpn' : p = n := by omega
    subst hpn'
    refine ⟨p, le_rfl, le_rfl, fun h => absurd h hpn, ?_, fun i h1 h2 => absurd h2 (by omega), by omega⟩
    funext i
    have hb : cut y p i = ⊥ := by simp [cut, i.isLt]
    simp [clear, hb]
  set g := y ⟨p, hpn⟩ with hg
  have htop : top (cut y p) = g := top_cut hy hpn
  -- the entries at least `g` are an initial stretch
  obtain ⟨q, hq1, hq2, hq⟩ : ∃ q, p < q ∧ q ≤ n ∧ ∀ i : Fin n, g ≤ y i ↔ i.val < q := by
    by_cases hall : ∀ i : Fin n, g ≤ y i
    · exact ⟨n, hpn, le_rfl, fun i => ⟨fun _ => i.isLt, fun _ => hall i⟩⟩
    · push Not at hall
      have hex : ∃ k, ∃ h : k < n, y ⟨k, h⟩ < g := by
        obtain ⟨i, hi⟩ := hall
        exact ⟨i.val, i.isLt, hi⟩
      obtain ⟨hk, hlt⟩ := Nat.find_spec hex
      refine ⟨Nat.find hex, ?_, hk.le, fun i => ⟨fun h => ?_, fun h => ?_⟩⟩
      · by_contra hcon
        have : g ≤ y ⟨Nat.find hex, hk⟩ := hy (show Nat.find hex ≤ p by omega)
        exact absurd hlt (not_lt.mpr this)
      · by_contra hcon
        have : y i ≤ y ⟨Nat.find hex, hk⟩ := hy (show Nat.find hex ≤ i.val by omega)
        exact absurd (h.trans this) (not_le.mpr hlt)
      · have := Nat.find_min hex h
        push Not at this
        exact this i.isLt
  have heq : ∀ i : Fin n, p ≤ i.val → i.val < q → y i = g := fun i h1 h2 =>
    le_antisymm (hy (show p ≤ i.val from h1)) ((hq i).mpr h2)
  refine ⟨q, hq1.le, hq2, fun _ => hq1, ?_, ?_, ?_⟩
  · funext i
    unfold clear
    rw [htop]
    unfold cut
    by_cases h1 : i.val < p
    · have h2 : i.val < q := by omega
      simp [h1, h2]
    · by_cases h2 : i.val < q
      · simp [h1, h2, heq i (by omega) h2]
      · have : y i ≠ g := fun h => h2 ((hq i).mp h.ge)
        simp [h1, h2, this]
  · intro i h1 h2
    rw [htop]; exact heq i h1 h2
  · rw [htop]
    by_cases hbot : g = ⊥
    · have hqn : q = n := by
        by_contra hne
        have := (hq ⟨q, by omega⟩).mp (by rw [hbot]; exact bot_le)
        exact absurd this (lt_irrefl _)
      have hall : (univ.filter fun j => cut y p j = g) = univ := by
        apply Finset.filter_true_of_mem
        intro i _
        unfold cut
        by_cases h1 : i.val < p
        · simp [h1, hbot]
        · simp only [h1, if_false]
          exact heq i (by omega) (by omega)
      rw [hall, Finset.card_univ, Fintype.card_fin]
      omega
    · have hset : (univ.filter fun j => cut y p j = g) = univ.filter fun i : Fin n => p ≤ i.val ∧ i.val < q := by
        apply Finset.filter_congr
        intro i _
        unfold cut
        by_cases h1 : i.val < p
        · simp only [h1, if_true]
          constructor
          · intro h; exact absurd h.symm hbot
          · intro h; omega
        · simp only [h1, if_false]
          constructor
          · intro h; exact ⟨by omega, (hq i).mp h.ge⟩
          · intro h; exact heq i h.1 h.2
      rw [hset, card_between hq2]
      omega

/-- The sum of `f` over the first `c` entries. -/
def firsts (f : EReal → EReal) (y : Fin n → EReal) (c : ℕ) : EReal := ∑ i ∈ univ.filter (fun i : Fin n => i.val < c), f (y i)

/-- The first `d` entries are the first `c` and those between, where these all hold one value. -/
theorem firsts_add (f : EReal → EReal) (y : Fin n → EReal) {c d : ℕ} (hcd : c ≤ d) (hd : d ≤ n) (g : EReal)
    (h : ∀ i : Fin n, c ≤ i.val → i.val < d → y i = g) :
    firsts f y d = firsts f y c + ((d - c : ℕ) : EReal) * f g := by
  classical
  unfold firsts
  have hsplit : (univ.filter fun i : Fin n => i.val < d)
      = (univ.filter fun i : Fin n => i.val < c) ∪ univ.filter fun i : Fin n => c ≤ i.val ∧ i.val < d := by
    ext i; simp only [mem_filter, mem_union, mem_univ, true_and]; omega
  rw [hsplit, Finset.sum_union]
  · congr 1
    rw [Finset.sum_congr rfl (g := fun _ => f g), Finset.sum_const, card_between hd, EReal.nsmul_eq_mul]
    intro i hi
    have := (Finset.mem_filter.mp hi).2
    rw [h i this.1 this.2]
  · rw [Finset.disjoint_filter]
    intro i _ h1 h2; omega

/-- The minimum of two numbers read as extended reals. -/
theorem natCast_min (a b : ℕ) : min (a : EReal) (b : EReal) = ((min a b : ℕ) : EReal) := by
  rcases le_total a b with h | h
  · rw [min_eq_left h, min_eq_left (by exact_mod_cast h)]
  · rw [min_eq_right h, min_eq_right (by exact_mod_cast h)]

/-- Twenty less a number up to twenty. -/
theorem twenty_sub (c : ℕ) (hc : c ≤ 20) : (20 : EReal) - (c : EReal) = ((20 - c : ℕ) : EReal) := by
  have h : ((20 : ℕ) : EReal) - (c : EReal) = ((20 - c : ℕ) : EReal) := by
    have e : ∀ m : ℕ, (m : EReal) = ((m : ℝ) : EReal) := fun m => (EReal.coe_natCast).symm
    rw [e, e, e, ← EReal.coe_sub]
    push_cast [hc]
    rfl
  exact_mod_cast h

/-- After `k` rounds a sorted row has lost its first `p` entries, at least `k` of them, the rounds have taken the first
    `min p 20`, and have added exactly those entries' terms. -/
theorem rounds (f : EReal → EReal) (s : EReal) {y : Fin n → EReal} (hy : Antitone y) (hn : 20 ≤ n) (k : ℕ) :
    ∃ p, p ≤ n ∧ min k n ≤ p ∧ left y k = cut y p ∧ got y k = ((min p 20 : ℕ) : EReal)
      ∧ total f s y k = s + firsts f y (min p 20) := by
  induction k with
  | zero =>
    refine ⟨0, Nat.zero_le _, by omega, ?_, ?_, ?_⟩
    · funext i; simp [left, cut]
    · simp [got]
    · simp [total, firsts]
  | succ k ih =>
    obtain ⟨p, hpn, hkp, hl, hg, ht⟩ := ih
    obtain ⟨q, hpq, hqn, hlt, hcl, hval, hcount⟩ := round hy hn hpn
    have htk : min (count (left y k)) (20 - got y k) = ((min q 20 - min p 20 : ℕ) : EReal) := by
      rw [hl, hg, twenty_sub _ (by omega), count_eq_card, natCast_min]
      congr 1
      omega
    refine ⟨q, hqn, ?_, ?_, ?_, ?_⟩
    · by_cases h : p < n
      · have := hlt h; omega
      · omega
    · show clear (left y k) = _
      rw [hl, hcl]
    · show got y k + _ = _
      rw [htk, hg, ← Nat.cast_add]
      congr 1; omega
    · show total f s y k + _ * f (top (left y k)) = _
      rw [htk, ht, hl, add_assoc]
      congr 1
      refine (firsts_add f y (by omega) (by omega) _ fun i h1 h2 => hval i (by omega) (by omega)).symm

/-- TWENTY ROUNDS ADD THE TWENTY GREATEST: for a permutation `π` that sorts the row greatest first. -/
theorem total_twenty (f : EReal → EReal) (s : EReal) (w : Fin n → EReal) (π : Equiv.Perm (Fin n)) (hn : 20 ≤ n)
    (hπ : Antitone (w ∘ π)) :
    total f s w 20 = s + ∑ k : Fin 20, f (w (π (k.castLE hn))) := by
  obtain ⟨p, hpn, hkp, -, -, ht⟩ := rounds f s hπ hn 20
  rw [← total_comp f s w π, ht]
  congr 1
  have : min p 20 = 20 := by omega
  rw [this]
  unfold firsts
  symm
  refine Finset.sum_bij (fun k _ => k.castLE hn) ?_ ?_ ?_ ?_
  · intro k _; simp
  · intro a _ b _ h; exact Fin.ext (by simpa using congrArg Fin.val h)
  · intro b hb
    have hb' : b.val < 20 := (Finset.mem_filter.mp hb).2
    exact ⟨⟨b.val, hb'⟩, mem_univ _, rfl⟩
  · intro k _; rfl

/-- The greatest of the first twenty entries of the sorted row is the greatest entry of the row. -/
theorem sup_twenty (w : Fin n → EReal) (π : Equiv.Perm (Fin n)) (hn : 20 ≤ n) (hπ : Antitone (w ∘ π)) :
    (univ.sup fun k : Fin 20 => w (π (k.castLE hn))) = top w := by
  rw [← top_comp w π]
  apply le_antisymm
  · exact Finset.sup_le fun k _ => Finset.le_sup (f := w ∘ π) (mem_univ (k.castLE hn))
  · refine Finset.sup_le fun j _ => ?_
    refine le_trans (hπ (show (⟨0, by omega⟩ : Fin n) ≤ j from Nat.zero_le _)) ?_
    exact Finset.le_sup (f := fun k : Fin 20 => w (π (k.castLE hn))) (mem_univ 0)

/-! ## The loss of one row -/

open Idealize.ShloMosaic

/-- The loss as the rounds compute it: masked row `w`, true logit `t`. -/
def roundsLoss (w : Fin n → EReal) (t : EReal) : EReal :=
  Ideal.log (total (fun y => Ideal.exp (y - max (top w) t)) (Ideal.exp (t - max (top w) t)) w 20) + max (top w) t - t

/-- The loss as the cross entropy of the true logit against the twenty greatest of the masked row. -/
theorem roundsLoss_eq (w : Fin n → EReal) (t : EReal) (π : Equiv.Perm (Fin n)) (hn : 20 ≤ n) (hπ : Antitone (w ∘ π))
    (hw : ∀ j, w j < ⊤) (ht : t < ⊤) (hreal : ∃ j, w j ≠ ⊥) :
    roundsLoss w t = -(t - max (top w) t
      - Ideal.log (Ideal.exp (t - max (top w) t) + ∑ k : Fin 20, Ideal.exp (w (π (k.castLE hn)) - max (top w) t))) := by
  unfold roundsLoss
  rw [total_twenty _ _ w π hn hπ]
  have htop : top w < ⊤ := (Finset.sup_lt_iff bot_lt_top).mpr fun j _ => hw j
  have hMt : max (top w) t < ⊤ := max_lt htop ht
  have hMb : ⊥ < max (top w) t := by
    obtain ⟨j, hj⟩ := hreal
    exact lt_of_lt_of_le (bot_lt_iff_ne_bot.mpr hj) (le_trans (Finset.le_sup (f := w) (mem_univ j)) (le_max_left _ _))
  have hmax : top w ≤ max (top w) t := le_max_left _ _
  have htM : t ≤ max (top w) t := le_max_right _ _
  have hat : max (top w) t = t ∨ max (top w) t = w (π ((0 : Fin 20).castLE hn)) := by
    rcases max_choice (top w) t with h | h
    · right
      rw [h, ← top_comp w π]
      exact le_antisymm (Finset.sup_le fun j _ => hπ (show (⟨0, by omega⟩ : Fin n) ≤ j from Nat.zero_le _))
        (Finset.le_sup (f := w ∘ π) (mem_univ _))
    · exact Or.inl h
  generalize max (top w) t = M at *
  lift M to ℝ using ⟨hMt.ne, hMb.ne'⟩
  -- every exponential is a real number between 0 and 1
  have hexp : ∀ y : EReal, y < ⊤ → ∃ r : ℝ, 0 ≤ r ∧ Ideal.exp (y - (M : EReal)) = (r : EReal) := by
    intro y hy
    induction y with
    | bot => exact ⟨0, le_rfl, by rw [EReal.bot_sub, Ideal.exp_bot, EReal.coe_zero]⟩
    | top => exact absurd hy (lt_irrefl _)
    | coe a => exact ⟨Real.exp (a - M), (Real.exp_pos _).le, by rw [← EReal.coe_sub, Ideal.exp_coe]⟩
  have hone : Ideal.exp ((M : EReal) - (M : EReal)) = ((1 : ℝ) : EReal) := by
    rw [← EReal.coe_sub, Ideal.exp_coe, sub_self, Real.exp_zero]
  choose r hr0 hr using fun k : Fin 20 => hexp (w (π (k.castLE hn))) (hw _)
  obtain ⟨r0, hr00, hr0e⟩ := hexp t ht
  simp only [hr, hr0e]
  have hsum : (∑ k : Fin 20, ((r k : ℝ) : EReal)) = ((∑ k : Fin 20, r k : ℝ) : EReal) :=
    (map_sum (⟨⟨Real.toEReal, EReal.coe_zero⟩, EReal.coe_add⟩ : ℝ →+ EReal) r univ).symm
  rw [hsum, ← EReal.coe_add]
  have hpos : 0 < r0 + ∑ k : Fin 20, r k := by
    rcases hat with h | h
    · have : r0 = 1 := by
        rw [← h, hone] at hr0e
        exact_mod_cast hr0e.symm
      have := Finset.sum_nonneg fun (k : Fin 20) (_ : k ∈ univ) => hr0 k
      linarith
    · have h1 : r 0 = 1 := by
        have := hr 0
        rw [← h, hone] at this
        exact_mod_cast this.symm
      have := Finset.single_le_sum (fun (k : Fin 20) _ => hr0 k) (mem_univ (0 : Fin 20))
      linarith
  have hlog : Ideal.log ((r0 + ∑ k : Fin 20, r k : ℝ) : EReal) = ((Real.log (r0 + ∑ k : Fin 20, r k) : ℝ) : EReal) := by
    rw [Ideal.log_coe, if_neg (not_le.mpr hpos)]
  rw [hlog]
  generalize Real.log (r0 + ∑ k : Fin 20, r k) = L
  induction t with
  | bot => rw [EReal.bot_sub, EReal.bot_sub, EReal.neg_bot, ← EReal.coe_add, EReal.coe_sub_bot]
  | top => exact absurd ht (lt_irrefl _)
  | coe a =>
    rw [← EReal.coe_add, ← EReal.coe_sub, ← EReal.coe_sub, ← EReal.coe_sub, ← EReal.coe_neg]
    congr 1
    ring

/-! ## The loss of a row of logits under its label -/

/-- The logit that replaces the true one among the others: the binary32 word of `-9999`. -/
def negBig : EReal := Ideal.ofBits .f32 0xC61C3C00#32

/-- The mask's value is minus 9999. -/
theorem negBig_eq : negBig = ((-9999 : ℝ) : EReal) := by
  simp [negBig, Ideal.ofBits, Ideal.ieee, -EReal.coe_mul]; norm_num

/-- The word for twenty. -/
theorem ofBits_twenty : Ideal.ofBits .f32 0x41A00000#32 = 20 := by
  have h : Ideal.ofBits .f32 0x41A00000#32 = ((20 : ℝ) : EReal) := by
    simp [Ideal.ofBits, Ideal.ieee, -EReal.coe_mul]; norm_num
  rw [h]; rfl

/-- The word for minus infinity. -/
theorem ofBits_negInf : Ideal.ofBits .f32 0xFF800000#32 = ⊥ := by
  simp [Ideal.ofBits, Ideal.ieee]

/-- The word for plus infinity. -/
theorem ofBits_posInf : Ideal.ofBits .f32 0x7F800000#32 = ⊤ := by
  simp [Ideal.ofBits, Ideal.ieee]

/-- The row with the logit in the label's column replaced. -/
def masked (x : Fin 4096 → EReal) (l : BitVec 32) : Fin 4096 → EReal :=
  fun j => if BitVec.ofNat 32 j.val = l then negBig else x j

/-- The logit in the label's column. -/
def truth (x : Fin 4096 → EReal) (l : BitVec 32) : EReal := ∑ j : Fin 4096, if BitVec.ofNat 32 j.val = l then x j else 0

/-- The loss of a row: nothing where the label is the ignore index `-1`, the rounds' loss elsewhere. -/
def rowLoss (x : Fin 4096 → EReal) (l : BitVec 32) : EReal :=
  if l = 4294967295#32 then 0 else roundsLoss (masked x l) (truth x l)

/-- A selection on an equality of words is the `if` on it. -/
theorem select_eq {α : Type} (u v : BitVec 32) (a b : α) :
    Scalar.select (IntOp.cmpi .eq u v) a b = if u = v then a else b := by
  by_cases h : u = v <;> simp [h, Scalar.select, IntOp.cmpi, beq_eq_decide]

/-- Whether a row's instance word names segment `s`, as a number. -/
def hit (i : BitVec 32) (s : Fin 512) : EReal := if i = BitVec.ofNat 32 s.val then 1 else 0

/-- The greatest of twenty-one is the first or the greatest of the rest. -/
theorem sup_succ (f : Fin 21 → EReal) : (Finset.univ.sup f) = max (f 0) (Finset.univ.sup fun k : Fin 20 => f k.succ) := by
  rw [Fin.univ_succ, Finset.sup_cons, Finset.sup_map]
  rfl

end Cert.Row
-- ==== Proof.KernelRow.lean ====
/- The loss of a block, read row by row at the extended reals: each row's loss is `Cert.Row.roundsLoss` of that row. -/
module

public import proofs.«01_k».proof.Proof.Rounds
public import proofs.«01_k».proof.Proof.RowMath
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem

namespace Cert.KernelIdeal.Work

open Cert.KernelIdeal Cert.KernelIdeal.Gen

/-- Row `r` of a block of logits. -/
def row (w : FVec Ideal S128x4096 .f32) (r : Fin 128) : Fin 4096 → EReal := fun j => w (ix2 r j)

variable (w : FVec Ideal S128x4096 .f32) (r : Fin 128)

/-- A selection on the one-bit word of a decision is the `if` on it. -/
theorem select_ofBool {α : Type} (p : Prop) [Decidable p] (a b : α) :
    Scalar.select (BitVec.ofBool (decide p)) a b = if p then a else b := by
  by_cases h : p <;> simp [h, Scalar.select]

/-- The one-bit word of a decision, widened and read as a number, is `1` or `0`. -/
theorem sitofp_ofBool (p : Prop) [Decidable p] :
    (FloatOps.sitofp FTy.f32 (BitVec.setWidth 32 (BitVec.ofBool (decide p))) : Ideal .f32) = if p then (1 : EReal) else 0 := by
  by_cases h : p <;> simp [h, FloatOps.sitofp]

/-- A row's maximum is its greatest entry. -/
theorem rowMax_at : rowMax w (ix2 r 0) = Row.top (row w r) := by
  pointwise [rowMax]
  rw [Row.ofBits_negInf]
  rfl

/-- The number of entries equal to the maximum. -/
theorem maxCount_at : maxCount w (ix2 r 0) = Row.count (row w r) := by
  pointwise [maxCount, atMax]
  simp only [sitofp_ofBool, rowMax_at]
  rfl

/-- How many of them a round takes: at most what is missing to twenty. -/
theorem taken_at (c : FVec Ideal S128x1 .f32) : taken w c (ix2 r 0) = min (Row.count (row w r)) (20 - c (ix2 r 0)) := by
  pointwise [taken]
  rw [maxCount_at, Row.ofBits_twenty]

/-- A round clears the entries equal to the maximum. -/
theorem drop_at : row (drop w) r = Row.clear (row w r) := by
  funext j
  unfold row
  pointwise [drop, atMax]
  rw [Row.ofBits_negInf, rowMax_at]
  rfl

/-- The row after `n` rounds. -/
theorem work_at (n : ℕ) : row (work w n) r = Row.left (row w r) n := by
  induction n with
  | zero => rfl
  | succ n ih =>
    show row (drop (work w n)) r = Row.clear (Row.left (row w r) n)
    rw [drop_at, ih]

/-- How many entries `n` rounds have taken. -/
theorem cum_at (n : ℕ) : cum w n (ix2 r 0) = Row.got (row w r) n := by
  induction n with
  | zero => exact Ideal.ofBits_zero_f32
  | succ n ih =>
    show cum w n (ix2 r 0) + taken (work w n) (cum w n) (ix2 r 0) = _
    rw [taken_at, ih, work_at]
    rfl

/-- The sum of exponentials after `n` rounds. -/
theorem acc_at (M s : FVec Ideal S128x1 .f32) (n : ℕ) :
    acc M s w n (ix2 r 0) = Row.total (fun y => Ideal.exp (y - M (ix2 r 0))) (s (ix2 r 0)) (row w r) n := by
  induction n with
  | zero => rfl
  | succ n ih =>
    have e : ∀ a b c d : FVec Ideal S128x1 .f32, addf a (mulf b (exp (subf c d))) (ix2 r 0)
        = a (ix2 r 0) + b (ix2 r 0) * Ideal.exp (c (ix2 r 0) - d (ix2 r 0)) := fun _ _ _ _ => rfl
    rw [acc, e, taken_at, ih, cum_at, rowMax_at, work_at, Row.total]

variable (x : Vec Ideal S128x4096 .f32) (l : Vec Ideal S128x1 .i32)

/-- The sum under the label mask is the logit in the label's column. -/
theorem truth_at : k0_pay9 x l (ix2 r 0) = Row.truth (row x r) (l (ix2 r 0)) := by
  pointwise [k0_pay9, k0_pay8, k0_pay7]
  simp only [Row.select_eq]
  rfl

/-- The block with the label's column masked. -/
theorem masked_at : row (k0_pay10 x l) r = Row.masked (row x r) (l (ix2 r 0)) := by
  funext j
  unfold row
  pointwise [k0_pay10, k0_pay8, k0_pay7]
  rw [Row.select_eq]
  rfl

/-- What the exponents are shifted by: the greatest of the masked row and the true logit. -/
theorem shift_at : k0_pay11 x l (ix2 r 0)
    = max (Row.top (Row.masked (row x r) (l (ix2 r 0)))) (Row.truth (row x r) (l (ix2 r 0))) := by
  show max (rowMax (k0_pay10 x l) (ix2 r 0)) (k0_pay9 x l (ix2 r 0)) = _
  rw [rowMax_at, masked_at, truth_at]

/-- THE LOSS OF A BLOCK, ROW BY ROW. -/
theorem lossCol_at : lossCol x l (ix2 r 0) = Row.rowLoss (row x r) (l (ix2 r 0)) := by
  have h : lossCol x l (ix2 r 0) = if l (ix2 r 0) = 4294967295#32 then 0 else
      Ideal.log (acc (k0_pay11 x l) (exp (subf (k0_pay9 x l) (k0_pay11 x l))) (k0_pay10 x l) 20 (ix2 r 0))
        + k0_pay11 x l (ix2 r 0) - k0_pay9 x l (ix2 r 0) := by
    pointwise [lossCol, k0_pay7]
    rw [Row.select_eq]
  rw [h, acc_at, shift_at, truth_at, masked_at]
  have e : exp (subf (k0_pay9 x l) (k0_pay11 x l)) (ix2 r 0) = Ideal.exp (k0_pay9 x l (ix2 r 0) - k0_pay11 x l (ix2 r 0)) := rfl
  rw [e, shift_at, truth_at]
  rfl

/-- The one-bit word of an equality, widened and read as a number, is `1` or `0`. -/
theorem sitofp_eq (u v : BitVec 32) :
    (FloatOps.sitofp FTy.f32 (BitVec.setWidth 32 (IntOp.cmpi .eq u v)) : Ideal .f32) = if u = v then (1 : EReal) else 0 := by
  by_cases h : u = v <;> simp [h, FloatOps.sitofp, IntOp.cmpi, beq_eq_decide]

/-- The sums after a block: each segment gains the losses of the block's rows in it. -/
theorem sums_at (L : FVec Ideal S128x1 .f32) (u : Vec Ideal S1x512 .f32) (s : Fin 512) :
    k0_pay2 L l u (ix2 0 s) = u (ix2 0 s) + ∑ r : Fin 128, Row.hit (l (ix2 r 0)) s * L (ix2 r 0) := by
  pointwise [k0_pay2, k0_pay1]
  simp only [sitofp_eq]
  rfl

/-- The counts after a block: each segment gains the number of the block's rows in it. -/
theorem counts_at (u : Vec Ideal S1x512 .f32) (s : Fin 512) :
    k0_pay3 l u (ix2 0 s) = u (ix2 0 s) + ∑ r : Fin 128, Row.hit (l (ix2 r 0)) s := by
  pointwise [k0_pay3, k0_pay1]
  simp only [sitofp_eq]
  rfl

/-- The last point divides the sums by the counts, at least one. -/
theorem quot_at (u v : Vec Ideal S1x512 .f32) (s : Fin 512) :
    k0_pay4 u v (ix2 0 s) = Ideal.div (u (ix2 0 s)) (max (v (ix2 0 s)) 1) := by
  pointwise [k0_pay4]

/-- The sums start at zero. -/
theorem zero5_at (s : Fin 512) : (k0_pay5 (F := Ideal)) (ix2 0 s) = 0 := by
  pointwise [k0_pay5]

/-- The counts start at zero. -/
theorem zero6_at (s : Fin 512) : (k0_pay6 (F := Ideal)) (ix2 0 s) = 0 := by
  pointwise [k0_pay6]

end Cert.KernelIdeal.Work
-- ==== Proof.KernelArray.lean ====
module

public import proofs.«01_k».proof.Proof.KBody
public import proofs.«01_k».proof.Proof.KernelRow

@[expose] public section

set_option maxRecDepth 16384

noncomputable section

open Idealize.ShloMosaic Idealize.ShloMosaic.TcCoe Idealize.SL.Sem
open Idealize.ShloMosaic.Pipeline (Dat)

namespace Cert.KernelIdeal.Work

open Cert.KernelIdeal Cert.KernelIdeal.Gen Cert.KernelIdeal.Value

variable (m : (ℓ : Loc nD τ sig) → Buf (Elt Ideal) ℓ) (c : Dev nD)

/-- The logits the run is given. -/
def logits : Fin 16384 → Fin 4096 → EReal := fun r j => m ((c : Thread nD τ).loc main_arg0) (ix2 r j)
/-- The labels the run is given. -/
def labels : Fin 16384 → BitVec 32 := fun r => m ((c : Thread nD τ).loc main_arg1) (ix1 r)
/-- The instance of each row. -/
def insts : Fin 16384 → BitVec 32 := fun r => m ((c : Thread nD τ).loc main_arg2) (ix1 r)

/-- Point `t` reads the `t`-th block of the logits. -/
theorem idx0 : ∀ t : Fin cfg0.N, win0_0.index t = ![t.val, 0] := (by decide +kernel : ∀ t : Fin grid0.N, _)
/-- Point `t` reads the `t`-th block of the labels. -/
theorem idx1 : ∀ t : Fin cfg0.N, win0_1.index t = ![t.val, 0] := (by decide +kernel : ∀ t : Fin grid0.N, _)
/-- Point `t` reads the `t`-th block of the instances. -/
theorem idx2 : ∀ t : Fin cfg0.N, win0_2.index t = ![t.val, 0] := (by decide +kernel : ∀ t : Fin grid0.N, _)

/-- Row `r` of block `t`, in the whole array. -/
def at_ (t : Fin cfg0.N) (r : Fin 128) : Fin 16384 := ⟨128 * t.val + r.val, by
  have h := lt_of_lt_of_eq t.isLt (show cfg0.N = 128 from N_0); omega⟩

/-- Row `r` of point `t`'s block of logits. -/
theorem blk0 (t : Fin cfg0.N) (r : Fin 128) : row (iblk m c 0 t) r = logits m c (at_ t r) := by
  funext j
  unfold row logits
  blk_ext [iblk, V, idx0 t, at_]

/-- Label `r` of point `t`'s block. -/
theorem blk1 (t : Fin cfg0.N) (r : Fin 128) : (iblk m c 1 t : Vec Ideal S128x1 .i32) (ix2 r 0) = labels m c (at_ t r) := by
  unfold labels
  blk_simp [iblk]
  entry_read
  pointwise
  blk_ext [idx1 t, at_]

/-- Instance `r` of point `t`'s block. -/
theorem blk2 (t : Fin cfg0.N) (r : Fin 128) : (iblk m c 2 t : Vec Ideal S128x1 .i32) (ix2 r 0) = insts m c (at_ t r) := by
  unfold insts
  blk_simp [iblk]
  entry_read
  pointwise
  blk_ext [idx2 t, at_]

/-! ## Sums over the rows, block by block -/

/-- A function of the rows, continued by zero. -/
def ext (f : Fin 16384 → EReal) (i : ℕ) : EReal := if h : i < 16384 then f ⟨i, h⟩ else 0

/-- The sum of the first `n` blocks of rows. -/
def upTo (f : Fin 16384 → EReal) (n : ℕ) : EReal := ∑ i ∈ Finset.range (128 * n), ext f i

/-- No block adds nothing. -/
theorem upTo_zero (f : Fin 16384 → EReal) : upTo f 0 = 0 := by simp [upTo]

/-- One more block adds the sum over its rows. -/
theorem upTo_succ (f : Fin 16384 → EReal) (t : Fin cfg0.N) :
    upTo f (t.val + 1) = upTo f t.val + ∑ r : Fin 128, f (at_ t r) := by
  unfold upTo
  rw [Nat.mul_add, Nat.mul_one, Finset.sum_range_add, Finset.sum_range (n := 128)]
  congr 1
  refine Finset.sum_congr rfl fun r _ => ?_
  exact dif_pos (at_ t r).isLt

/-- The `128` blocks are all the rows. -/
theorem upTo_all (f : Fin 16384 → EReal) : upTo f 128 = ∑ i : Fin 16384, f i := by
  unfold upTo
  rw [Finset.sum_range]
  exact Finset.sum_congr rfl fun i _ => dif_pos i.isLt

/-- The loss of row `i`. -/
def loss (i : Fin 16384) : EReal := Row.rowLoss (logits m c i) (labels m c i)

/-- What block `t` adds to a segment's sum. -/
theorem block_sums (t : Fin cfg0.N) (u : Vec Ideal S1x512 .f32) (s : Fin 512) :
    k0_pay2 (lossCol (iblk m c 0 t) (iblk m c 1 t)) (iblk m c 2 t) u (ix2 0 s)
      = u (ix2 0 s) + ∑ r : Fin 128, Row.hit (insts m c (at_ t r)) s * loss m c (at_ t r) := by
  rw [sums_at]
  congr 1
  refine Finset.sum_congr rfl fun r _ => ?_
  rw [lossCol_at, blk0, blk1, blk2, loss]

/-- What block `t` adds to a segment's count. -/
theorem block_counts (t : Fin cfg0.N) (u : Vec Ideal S1x512 .f32) (s : Fin 512) :
    k0_pay3 (iblk m c 2 t) u (ix2 0 s) = u (ix2 0 s) + ∑ r : Fin 128, Row.hit (insts m c (at_ t r)) s := by
  rw [counts_at]
  congr 1
  refine Finset.sum_congr rfl fun r _ => ?_
  rw [blk2]

/-- The losses and the counts carried after point `n`, before the last. -/
theorem carried (s : Fin 512) : ∀ (n : ℕ) (hn : n < cfg0.N), n < 127 →
    (outsAt0 m c n hn).2.1 (ix2 0 s) = upTo (fun i => Row.hit (insts m c i) s * loss m c i) (n + 1)
    ∧ (outsAt0 m c n hn).2.2 (ix2 0 s) = upTo (fun i => Row.hit (insts m c i) s) (n + 1)
  | 0, hn, _ => by
    have e := stAt0_A m c ⟨0, hn⟩ junk0 (Nat.zero_mod _) (by show ¬(0 % 128 = 127); omega)
    rw [outsAt0_zero, show stAt0 m c 0 hn junk0 = _ from e]
    constructor
    · dsimp only
      rw [sum_A, block_sums, zero5_at, upTo_succ _ ⟨0, hn⟩, upTo_zero]
    · dsimp only
      rw [cnt_A, block_counts, zero6_at, upTo_succ _ ⟨0, hn⟩, upTo_zero]
  | n + 1, hn, h => by
    obtain ⟨ih1, ih2⟩ := carried s n (Nat.lt_of_succ_lt hn) (by omega)
    have e := stAt0_B m c ⟨n + 1, hn⟩ (outsAt0 m c n (Nat.lt_of_succ_lt hn)) (by show ¬((n + 1) % 128 = 0); omega) (by show ¬((n + 1) % 128 = 127); omega)
    rw [outsAt0_succ, show stAt0 m c (n + 1) hn _ = _ from e]
    constructor
    · dsimp only
      rw [sum_B, block_sums, ih1, upTo_succ _ ⟨n + 1, hn⟩]
    · dsimp only
      rw [cnt_B, block_counts, ih2, upTo_succ _ ⟨n + 1, hn⟩]

/-- THE KERNEL'S RESULT: per segment, the losses of its rows over the number of its rows, at least one. -/
theorem result_at (s : Fin 512) : (G3 m c : Vec Ideal S1x512 .f32) (ix2 0 s)
    = Ideal.div (∑ i, Row.hit (insts m c i) s * loss m c i) (max (∑ i, Row.hit (insts m c i) s) 1) := by
  have hn : 127 < cfg0.N := lt_of_lt_of_eq (by decide) N_0.symm
  obtain ⟨h1, h2⟩ := carried m c s 126 (Nat.lt_of_succ_lt hn) (by decide)
  have e := stAt0_C m c ⟨127, hn⟩ (outsAt0 m c 126 (Nat.lt_of_succ_lt hn)) (by show ¬(127 % 128 = 0); decide) (by show 127 % 128 = 127; decide)
  have g : G3 m c = (outsAt0 m c 127 hn).1 := by rw [G3_last, outsAt0_sweep]
  rw [g, outsAt0_succ m c 126 hn, show stAt0 m c 127 hn _ = _ from e]
  dsimp only
  rw [out_C, quot_at, block_sums, block_counts, h1, h2, ← upTo_succ _ ⟨127, hn⟩, ← upTo_succ _ ⟨127, hn⟩, upTo_all, upTo_all]

end Cert.KernelIdeal.Work
-- ==== Proof.RefReads.lean ====
module

public import proofs.«01_k».proof.Proof.RefTerm
public import proofs.«01_k».proof.Proof.RowMath
public import Idealize.ShloMosaic.Lib.Pipeline.ValueKit
public import Idealize.ShloMosaic.Lib.Routing.OpsPair
public import Idealize.ShloMosaic.Lib.Routing.OpsSet
public import Idealize.ShloMosaic.Lib.ReduceAll
public import Idealize.ShloMosaic.Lib.SortFacts

@[expose] public section

set_option maxRecDepth 16384

noncomputable section

/-! # The reference's gathers, scatters and sort, read at an index -/

namespace Cert.ReferenceIdeal.Work

open Cert.ReferenceIdeal Cert.ReferenceIdeal.Gen Idealize.ShloMosaic Idealize.ShloMosaic.TcCoe Idealize.SL.Sem

/-- A gather along the columns, one column number per row, in range: the entry it names. -/
theorem gatherRow {α : Type} (x : S16384x4096.Idx → α) (idx : IVec S16384x1x1 32) (i : Fin 16384) (k : Fin 4096)
    (h : (idx (ix3 i 0 0)).toInt = (k.val : ℤ)) :
    Host.gather gather_S16384x4096_S16384x1x1_S16384x1_n_1_0_0_1_2_11 x idx (ix2 i 0) = x (ix2 i k) := by
  have hs : gather_S16384x4096_S16384x1x1_S16384x1_n_1_0_0_1_2_11.siIdx (ix2 i 0) ⟨0, by decide⟩ = ix3 i 0 0 := by
    funext b; apply Fin.ext
    match b with
    | ⟨0, _⟩ => rfl
    | ⟨1, _⟩ => rfl
    | ⟨2, _⟩ => rfl
  unfold Host.gather
  congr 1
  funext a
  apply Fin.ext
  match a with
  | ⟨0, _⟩ =>
    show 0 + i.val + 0 = i.val
    omega
  | ⟨1, _⟩ =>
    show min (idx (gather_S16384x4096_S16384x1x1_S16384x1_n_1_0_0_1_2_11.siIdx (ix2 i 0) ⟨0, by decide⟩)).toInt.toNat (4096 - 1) + 0 + 0 = k.val
    rw [hs, h]
    have := k.isLt
    omega

/-- The same among twenty-one columns. -/
theorem gatherRow21 {α : Type} (x : S16384x21.Idx → α) (idx : IVec S16384x1x1 32) (i : Fin 16384) (k : Fin 21)
    (h : (idx (ix3 i 0 0)).toInt = (k.val : ℤ)) :
    Host.gather gather_S16384x21_S16384x1x1_S16384x1_n_1_0_0_1_2_11 x idx (ix2 i 0) = x (ix2 i k) := by
  have hs : gather_S16384x21_S16384x1x1_S16384x1_n_1_0_0_1_2_11.siIdx (ix2 i 0) ⟨0, by decide⟩ = ix3 i 0 0 := by
    funext b; apply Fin.ext
    match b with
    | ⟨0, _⟩ => rfl
    | ⟨1, _⟩ => rfl
    | ⟨2, _⟩ => rfl
  unfold Host.gather
  congr 1
  funext a
  apply Fin.ext
  match a with
  | ⟨0, _⟩ =>
    show 0 + i.val + 0 = i.val
    omega
  | ⟨1, _⟩ =>
    show min (idx (gather_S16384x21_S16384x1x1_S16384x1_n_1_0_0_1_2_11.siIdx (ix2 i 0) ⟨0, by decide⟩)).toInt.toNat (21 - 1) + 0 + 0 = k.val
    rw [hs, h]
    have := k.isLt
    omega

/-- Where a cell is written: at its own row and column numbers. -/
theorem cellLands (idx : IVec S16384x2 32) (k i : Fin 16384) (j : Fin 4096) :
    scatter_S16384x4096_S16384x2_S16384_n_01_01_1.resultIdx? (ix1 k) idx = some (ix2 i j)
      ↔ (idx (ix2 k 0)).toInt = (i.val : ℤ) ∧ (idx (ix2 k 1)).toInt = (j.val : ℤ) := by
  have hs : ∀ q : Fin 2, scatter_S16384x4096_S16384x2_S16384_n_01_01_1.siIdx (ix1 k) q = ix2 k q := by
    intro q
    funext b; apply Fin.ext
    match b with
    | ⟨0, _⟩ => rfl
    | ⟨1, _⟩ => rfl
  have e0 : scatter_S16384x4096_S16384x2_S16384_n_01_01_1.start (ix1 k) idx 0 = (idx (ix2 k 0)).toInt := by
    rw [← hs 0]; rfl
  have e1 : scatter_S16384x4096_S16384x2_S16384_n_01_01_1.start (ix1 k) idx 1 = (idx (ix2 k 1)).toInt := by
    rw [← hs 1]; rfl
  have w0 : scatter_S16384x4096_S16384x2_S16384_n_01_01_1.window (ix1 k) 0 = 0 := rfl
  have w1 : scatter_S16384x4096_S16384x2_S16384_n_01_01_1.window (ix1 k) 1 = 0 := rfl
  refine (Routing.resultIdx?_eq_some _ _ _ _).trans ⟨fun h => ⟨?_, ?_⟩, fun h a => ?_⟩
  · have := h 0
    rw [e0, w0] at this
    simpa using this
  · have := h 1
    rw [e1, w1] at this
    simpa using this
  · match a with
    | ⟨0, _⟩ =>
      refine (congrArg₂ (· + ·) e0 (congrArg Nat.cast w0)).trans ?_
      simpa using h.1
    | ⟨1, _⟩ =>
      refine (congrArg₂ (· + ·) e1 (congrArg Nat.cast w1)).trans ?_
      simpa using h.2

/-- Where a row is summed: in the segment its word names. -/
theorem segLands (idx : IVec S16384x1 32) (k : Fin 16384) (s : Fin 512) :
    scatter_S512_S16384x1_S16384_n_0_0_1.resultIdx? (ix1 k) idx = some (ix1 s) ↔ (idx (ix2 k 0)).toInt = (s.val : ℤ) := by
  have hs : scatter_S512_S16384x1_S16384_n_0_0_1.siIdx (ix1 k) ⟨0, by decide⟩ = ix2 k 0 := by
    funext b; apply Fin.ext
    match b with
    | ⟨0, _⟩ => rfl
    | ⟨1, _⟩ => rfl
  have e0 : scatter_S512_S16384x1_S16384_n_0_0_1.start (ix1 k) idx 0 = (idx (ix2 k 0)).toInt := by
    rw [← hs]; rfl
  have w0 : scatter_S512_S16384x1_S16384_n_0_0_1.window (ix1 k) 0 = 0 := rfl
  refine (Routing.resultIdx?_eq_some _ _ _ _).trans ⟨fun h => ?_, fun h a => ?_⟩
  · have := h 0
    rw [e0, w0] at this
    simpa using this
  · match a with
    | ⟨0, _⟩ =>
      refine (congrArg₂ (· + ·) e0 (congrArg Nat.cast w0)).trans ?_
      simpa using h

/-- The first sorted entries of a row, one by one. -/
theorem topRow {α : Type} {A B K : ℕ} (gt : α → α → BitVec 1) (x : (⟨2, ![A, B]⟩ : Shape).Idx → α)
    (h : (⟨2, ![A, B]⟩ : Shape).Slices (fun _ => 0) ⟨2, ![A, K]⟩) (hK : K ≤ B) (i : Fin A) (k : Fin K) :
    (Host.topK ⟨2, ![A, K]⟩ 1 gt x h).1 (ix2 i k)
      = x (ix2 i (sortedFrom (fun a b => gt (x (ix2 i a)) (x (ix2 i b)) == 1#1) (k.castLE hK))) := by
  have hal : ∀ (j : Fin B) (k' : Fin B), Shape.Idx.along (s := ⟨2, ![A, B]⟩) (ix2 i j) (1 : Fin 2) k' = ix2 i k' := by
    intro j k'
    funext a
    match a with
    | ⟨0, _⟩ => exact Function.update_of_ne (fun e => absurd (congrArg Fin.val e) Nat.zero_ne_one) _ _
    | ⟨1, _⟩ => exact Function.update_self _ _ _
  have hsl : ∀ y : (⟨2, ![A, B]⟩ : Shape).Idx → α, extractStridedSlice ⟨2, ![A, K]⟩ (fun _ => 0) y h (ix2 i k) = y (ix2 i (k.castLE hK)) := by
    intro y
    unfold extractStridedSlice
    congr 1
    funext a; apply Fin.ext
    match a with
    | ⟨0, _⟩ => exact Nat.zero_add _
    | ⟨1, _⟩ => exact Nat.zero_add _
  unfold Host.topK
  dsimp only
  rw [hsl]
  unfold Host.sort2
  rw [dif_pos (show 1 < (⟨2, ![A, B]⟩ : Shape).rank from Nat.one_lt_two)]
  dsimp only
  refine congrArg x ?_
  refine (hal _ _).trans ?_
  congr 1
  refine congrArg (fun R => sortedFrom R (k.castLE hK)) ?_
  funext a b
  exact congrArg₂ (fun u v => gt (x u) (x v) == 1#1) (hal _ _) (hal _ _)

/-- A row has at least twenty entries. -/
theorem twenty_le : 20 ≤ 4096 := by decide

/-- A sort is a permutation. -/
theorem sortPerm {n : ℕ} (R : Fin n → Fin n → Bool) : ∃ π : Equiv.Perm (Fin n), ∀ k, π k = sortedFrom R k :=
  ⟨Equiv.ofBijective (sortedFrom R) ⟨sortedFrom_injective R, sortedFrom_surjective R⟩, fun k => Equiv.ofBijective_apply _ _ k⟩

/-- Sorting by "strictly greater" leaves a sequence that never increases. -/
theorem sorted_antitone {n : ℕ} (f : Fin n → EReal) (R : Fin n → Fin n → Bool) (hR : ∀ a b, R a b = decide (f b < f a)) :
    Antitone (f ∘ sortedFrom R) := by
  intro a b hab
  rcases hab.eq_or_lt with rfl | hlt
  · exact le_refl _
  have h := sortedFrom_noInversion R R
    (fun a b h => by rw [hR] at h ⊢; exact decide_eq_false (not_lt.2 (of_decide_eq_true h).le))
    (fun a b h => h)
    (fun a b c h h' => by
      rw [hR] at h h' ⊢
      exact decide_eq_false (not_lt.2 ((not_lt.1 (of_decide_eq_false h)).trans (not_lt.1 (of_decide_eq_false h'))))) a b hlt
  rw [hR] at h
  exact not_lt.1 (of_decide_eq_false h)

/-- Row `i` of a matrix. -/
def mrow (W : FVec Ideal S16384x4096 .f32) (i : Fin 16384) : Fin 4096 → EReal := fun j => W (ix2 i j)

/-- The bit of the compare, as a decision. -/
theorem gt_bit (a b : Ideal .f32) : ((FloatOps.cmpfTotal .gt a b : BitVec 1) == 1#1) = decide ((b : EReal) < a) := by
  show (BitVec.ofBool (decide ((b : EReal) < a)) == 1#1) = _
  cases decide ((b : EReal) < a) <;> rfl

/-- The relation a row is sorted by. -/
def before (W : FVec Ideal S16384x4096 .f32) (i : Fin 16384) : Fin 4096 → Fin 4096 → Bool :=
  fun k k' => FloatOps.cmpfTotal .gt (W (ix2 i k)) (W (ix2 i k')) == 1#1

/-- One entry stands before another when it is greater. -/
theorem before_eq (W : FVec Ideal S16384x4096 .f32) (i : Fin 16384) (a b : Fin 4096) :
    before W i a b = decide (mrow W i b < mrow W i a) := gt_bit _ _

/-- The `k`-th best entry is the `k`-th of the sorted row. -/
theorem best_sorted (W : FVec Ideal S16384x4096 .f32) (i : Fin 16384) (k : Fin 20) :
    best (F := Ideal) W (ix2 i k) = mrow W i (sortedFrom (before W i) (k.castLE twenty_le)) :=
  topRow (α := Ideal .f32) (A := 16384) (B := 4096) (K := 20) (FloatOps.cmpfTotal .gt) W sliceFits_S16384x4096_S16384x20 twenty_le i k

/-- Twenty sorted entries of a row: the row in the order of some permutation under which it never increases, cut after twenty. -/
theorem best_at (W : FVec Ideal S16384x4096 .f32) (i : Fin 16384) :
    ∃ π : Equiv.Perm (Fin 4096), Antitone (mrow W i ∘ π)
      ∧ ∀ k : Fin 20, best (F := Ideal) W (ix2 i k) = mrow W i (π (k.castLE twenty_le)) := by
  obtain ⟨π, hπ⟩ := sortPerm (before W i)
  have ha := sorted_antitone (mrow W i) (before W i) (before_eq W i)
  refine ⟨π, fun a b hab => ?_, fun k => ?_⟩
  · have h := ha hab
    rw [Function.comp_apply, Function.comp_apply] at h ⊢
    rw [hπ, hπ]
    exact h
  · rw [hπ, best_sorted]

end Cert.ReferenceIdeal.Work
-- ==== Proof.RefRow.lean ====
module

public import proofs.«01_k».proof.Proof.RefReads

@[expose] public section

set_option maxRecDepth 16384

noncomputable section

/-! # The reference's loss, row by row -/

namespace Cert.ReferenceIdeal.Work

open Cert.ReferenceIdeal Cert.ReferenceIdeal.Gen Idealize.ShloMosaic Idealize.ShloMosaic.TcCoe Idealize.SL.Sem

variable (X : FVec Ideal S16384x4096 .f32) (L : IVec S16384 32) (i : Fin 16384)

/-- The labels a row may carry: the ignore index or a column. -/
def Label (l : BitVec 32) : Prop := l = 4294967295#32 ∨ l.toNat < 4096

/-- A word below `2³¹` reads the same signed and unsigned. -/
theorem toInt_small {l : BitVec 32} (h : l.toNat < 2 ^ 31) : l.toInt = (l.toNat : ℤ) :=
  WordCmp.toInt_eq_toNat_of_lt_half (w := 32) h

/-- A column reads the vector. -/
theorem column_at {α : Type} (v : S16384.Idx → α) : column v (ix2 i 0) = v (ix1 i) := by
  pointwise [column]

/-- A negative index has the extent added. -/
theorem wrapped_at (n : BitVec 32) (B : IVec S16384x1 32) :
    wrapped n B (ix3 i 0 0) = Scalar.select (IntOp.cmpi .slt (B (ix2 i 0)) 0#32) (B (ix2 i 0) + n) (B (ix2 i 0)) := by
  pointwise [wrapped, repCol]
  rfl

/-- A column number that is not negative stays. -/
theorem wrapped_pos (n : BitVec 32) (B : IVec S16384x1 32) (h : (B (ix2 i 0)).toNat < 2 ^ 31) : wrapped n B (ix3 i 0 0) = B (ix2 i 0) := by
  rw [wrapped_at]
  exact Routing.wrap_of_lt _ _ h

/-- The flag is `-1` on ignored rows and zero on the others. -/
theorem flag_at : flag L (ix1 i) = if L (ix1 i) = 4294967295#32 then 4294967295#32 else 0#32 := by
  pointwise [flag, rep]
  rw [Row.select_eq]

/-- The index into the log-softmax is always zero. -/
theorem safe_at : safe L (ix1 i) = 0#32 := by
  pointwise [safe, rep]
  rw [Row.select_eq, flag_at]
  by_cases h : L (ix1 i) = 4294967295#32 <;> simp [h]

/-- The scatter writes in row `k` for index `k`. -/
theorem cells0 (k : Fin 16384) : (cells L (ix2 k 0)).toInt = (k.val : ℤ) := by
  have hk : k.val < 2 ^ 31 := lt_trans k.isLt (by norm_num)
  have e : cells L (ix2 k 0) = BitVec.ofNat 32 k.val := by
    pointwise [cells, column, rep]
    refine Routing.wrap_of_lt _ _ ?_
    rw [WordCmp.toNat_ofNat_of_lt (lt_trans hk (by norm_num))]
    exact hk
  rw [e]
  exact WordCmp.toInt_ofNat_of_lt (w := 32) hk

/-- It writes in the label's column. -/
theorem cells1 (h : (L (ix1 i)).toNat < 2 ^ 31) : (cells L (ix2 i 1)).toInt = ((L (ix1 i)).toNat : ℤ) := by
  have e : cells L (ix2 i 1) = L (ix1 i) := by
    pointwise [cells, column, rep]
    exact Routing.wrap_of_lt _ _ h
  rw [e, toInt_small h]

/-- Every column number in range: the check passes. -/
theorem inside_at (n : BitVec 32) (idx : IVec S16384x1x1 32)
    (h : ∀ r : Fin 16384, 0 ≤ (idx (ix3 r 0 0)).toInt ∧ (idx (ix3 r 0 0)).toInt ≤ n.toInt) (j : S16384x1.Idx) : inside n idx j = 1#1 := by
  unfold inside
  refine Host.reduce_andi_one _ _ _ _ _ rfl fun q => ?_
  have hq : q = ix3 (q 0) 0 0 := by
    funext a
    match a with
    | ⟨0, _⟩ => rfl
    | ⟨1, _⟩ => exact Subsingleton.elim (α := Fin 1) _ _
    | ⟨2, _⟩ => exact Subsingleton.elim (α := Fin 1) _ _
  rw [hq]
  obtain ⟨h0, h1⟩ := h (q 0)
  have e : ∀ w : BitVec 32, 0 ≤ w.toInt → w.toInt ≤ n.toInt → IntOp.andi (IntOp.cmpi .sge w 0#32) (IntOp.cmpi .sle w n) = 1#1 := by
    intro w h0 h1
    rw [WordCmp.cmpi_sge_eq, WordCmp.cmpi_sle_eq, decide_eq_true h1, decide_eq_true (show (0#32 : BitVec 32).toInt ≤ w.toInt from h0)]
    rfl
  exact e _ h0 h1

/-- A label, wrapped, is a column. -/
theorem wrapped_label (hL : ∀ r, Label (L (ix1 r))) (r : Fin 16384) :
    0 ≤ (wrapped 4096#32 (column L) (ix3 r 0 0)).toInt ∧ (wrapped 4096#32 (column L) (ix3 r 0 0)).toInt ≤ (4095#32 : BitVec 32).toInt := by
  rcases hL r with h | h
  · rw [wrapped_at, column_at, h]
    decide
  · rw [wrapped_pos _ _ _ (by rw [column_at]; omega), column_at, toInt_small (by omega)]
    have : (4095#32 : BitVec 32).toInt = 4095 := by decide
    omega

/-- The gathered logit is the one in the label's column. -/
theorem takeLogit_at (hL : ∀ r, Label (L (ix1 r))) (h : (L (ix1 i)).toNat < 4096) : takeLogit X L (ix2 i 0) = mrow X i ⟨(L (ix1 i)).toNat, h⟩ := by
  have e : takeLogit X L (ix2 i 0) = Scalar.select (inside 4095#32 (wrapped 4096#32 (column L)) (ix2 i 0))
    (Host.gather gather_S16384x4096_S16384x1x1_S16384x1_n_1_0_0_1_2_11 X (wrapped 4096#32 (column L)) (ix2 i 0)) (bad (ix2 i 0)) := rfl
  rw [e, inside_at _ _ (wrapped_label L hL), gatherRow X _ i ⟨(L (ix1 i)).toNat, h⟩]
  · rfl
  · rw [wrapped_pos _ _ _ (by rw [column_at]; omega), column_at, toInt_small (by omega)]

/-- The picked log-probability is the first of the row. -/
theorem picked_at (P : FVec Ideal S16384x21 .f32) : picked P L (ix1 i) = P (ix2 i 0) := by
  have hw : ∀ r, (wrapped 21#32 (id (column (safe L))) (ix3 r 0 0)) = 0#32 := fun r => by
    have hc : id (column (safe L)) (ix2 r 0) = 0#32 := by rw [id, column_at, safe_at]
    rw [wrapped_pos _ _ _ (by rw [hc]; decide), hc]
  pointwise [picked]
  rw [inside_at, gatherRow21 P _ i 0]
  · rfl
  · rw [hw]; rfl
  · intro r
    rw [hw]
    decide

/-- The class weights are all one. -/
theorem weight_at : weight (F := Ideal) L (ix1 i) = 1 := Ideal.ofBits_one_f32

/-- A row's loss: zero where the flag is `-1`, else minus the first log-probability, weighted. -/
theorem lossRef_at : lossRef X L (ix1 i) = if flag L (ix1 i) = 4294967295#32 then 0 else
   - picked (logSoft (kept X L)) L (ix1 i) * weight (F := Ideal) L (ix1 i) := by
  rw [← Row.select_eq]
  unfold lossRef
  pointwise [rep, id]

/-- The peak is the greatest of the twenty-one logits. -/
theorem peak_at (N : FVec Ideal S16384x21 .f32) : peak N (ix1 i) = Finset.univ.sup fun k : Fin 21 => (N (ix2 i k) : EReal) := by
  pointwise [peak]
  rw [Row.ofBits_negInf, max_eq_right bot_le]
  rfl

/-- The logits less their peak. -/
theorem shifted_at (N : FVec Ideal S16384x21 .f32) (k : Fin 21) : shifted N (ix2 i k) = N (ix2 i k) - peak N (ix1 i) := by
  pointwise [shifted, column]

/-- The log-softmax of a row. -/
theorem logSoft_at (N : FVec Ideal S16384x21 .f32) (k : Fin 21) : logSoft N (ix2 i k)
    = shifted N (ix2 i k) - Ideal.log (∑ q : Fin 21, Ideal.exp (shifted N (ix2 i q))) := by
  pointwise [logSoft, column]

/-- The first kept logit is the true one. -/
theorem kept0 : kept X L (ix2 i 0) = takeLogit X L (ix2 i 0) := by
  pointwise [kept]

/-- The other kept logits are the twenty best. -/
theorem keptS (k : Fin 20) : kept X L (ix2 i k.succ) = best (maskedX X L) (ix2 i k) := by
  pointwise [kept]
  rw [dif_neg (by simp)]
  rfl

/-- The true logit of a row is replaced, the others are kept. -/
theorem masked_at (h : (L (ix1 i)).toNat < 4096) : mrow (maskedX X L) i = Row.masked (mrow X i) (L (ix1 i)) := by
  funext j
  unfold mrow Row.masked maskedX
  have hj : j.val < 2 ^ 32 := lt_trans j.isLt (by norm_num)
  by_cases hl : BitVec.ofNat 32 j.val = L (ix1 i)
  · rw [if_pos hl]
    refine Routing.scatter_set_hit _ _ _ _ _ _ (fun k _ => rfl) (ix1 i) ((cellLands _ _ _ _).2 ⟨cells0 L i, ?_⟩)
    rw [cells1 L i (by omega), ← hl, WordCmp.toNat_ofNat_of_lt hj]
  · rw [if_neg hl]
    refine Routing.scatter_set_miss _ _ _ _ _ fun k hk => hl ?_
    obtain ⟨k', ek⟩ : ∃ k' : Fin 16384, k = ix1 k' := ⟨k 0, by
      funext a
      match a with
      | ⟨0, _⟩ => rfl⟩
    rw [ek] at hk
    obtain ⟨h0, h1⟩ := (cellLands _ _ _ _).1 hk
    rw [cells0] at h0
    have ei : k' = i := Fin.ext (by exact_mod_cast h0)
    rw [ei, cells1 L i (by omega)] at h1
    have : (L (ix1 i)).toNat = j.val := by exact_mod_cast h1
    rw [← this, BitVec.ofNat_toNat, BitVec.setWidth_eq]

/-- The sum that picks the true logit picks it. -/
theorem truth_eq (x : Fin 4096 → EReal) (l : BitVec 32) (h : l.toNat < 4096) : Row.truth x l = x ⟨l.toNat, h⟩ := by
  unfold Row.truth
  have e : ∀ j : Fin 4096, (BitVec.ofNat 32 j.val = l) ↔ j = ⟨l.toNat, h⟩ := by
    intro j
    have hj : j.val < 2 ^ 32 := lt_trans j.isLt (by norm_num)
    constructor
    · intro e
      apply Fin.ext
      show j.val = l.toNat
      rw [← e]
      exact (WordCmp.toNat_ofNat_of_lt hj).symm
    · rintro rfl
      simp
  simp only [e, Finset.sum_ite_eq', Finset.mem_univ, if_true]

/-- THE REFERENCE'S LOSS OF A ROW IS THE ROUNDS' LOSS. -/
theorem lossRef_eq (hX : ∀ r j, (X (ix2 r j) : EReal) < ⊤) (hL : ∀ r, Label (L (ix1 r))) :
    lossRef X L (ix1 i) = Row.rowLoss (mrow X i) (L (ix1 i)) := by
  rw [lossRef_at, flag_at, Row.rowLoss]
  by_cases hneg : L (ix1 i) = 4294967295#32
  · rw [if_pos hneg, if_pos rfl, if_pos hneg]
  have h : (L (ix1 i)).toNat < 4096 := (hL i).resolve_left hneg
  rw [if_neg hneg, if_neg (by decide), if_neg hneg, weight_at, picked_at]
  obtain ⟨π, hπ, hb⟩ := best_at (maskedX X L) i
  rw [masked_at X L i h] at hπ hb
  have ht := truth_eq (mrow X i) (L (ix1 i)) h
  have h0 : kept X L (ix2 i 0) = Row.truth (mrow X i) (L (ix1 i)) := by
    rw [kept0, takeLogit_at X L i hL h, ht]
  have hS : ∀ k : Fin 20, kept X L (ix2 i k.succ) = Row.masked (mrow X i) (L (ix1 i)) (π (k.castLE twenty_le)) := fun k => by
    rw [keptS, hb]
  have hp : peak (kept X L) (ix1 i) = max (Row.top (Row.masked (mrow X i) (L (ix1 i)))) (Row.truth (mrow X i) (L (ix1 i))) := by
    rw [peak_at, Row.sup_succ, h0, ← Row.sup_twenty _ π twenty_le hπ, max_comm]
    simp only [hS]
  rw [Row.roundsLoss_eq _ _ π twenty_le hπ, logSoft_at, Fin.sum_univ_succ]
  · simp only [shifted_at, h0, hS, hp]
    exact mul_one _
  · intro j
    unfold Row.masked
    split
    · rw [Row.negBig_eq]; exact EReal.coe_lt_top _
    · exact hX i j
  · rw [ht]; exact hX i _
  · refine ⟨⟨(L (ix1 i)).toNat, h⟩, ?_⟩
    unfold Row.masked
    rw [if_pos (by simp), Row.negBig_eq]
    exact EReal.coe_ne_bot _

/-- A sum over the rows of a segment. -/
theorem perSegment_at (I : IVec S16384 32) (v : FVec Ideal S16384 .f32) (s : Fin 512) :
    perSegment I v (ix1 s) = ∑ k : Fin 16384, Row.hit (I (ix1 k)) s * (v (ix1 k) : EReal) := by
  have e : perSegment I v (ix1 s) = Ideal.ofBits .f32 0x00000000#32 + ∑ j ∈ Finset.univ.filter
      (fun j => scatter_S512_S16384x1_S16384_n_0_0_1.resultIdx? j (column I) = some (ix1 s)), (v j : EReal) := rfl
  rw [e, Ideal.ofBits_zero_f32, zero_add, Finset.sum_filter, sum_idx1]
  refine Finset.sum_congr rfl fun k _ => ?_
  have hs : s.val < 2 ^ 31 := lt_trans s.isLt (by norm_num)
  have hi : scatter_S512_S16384x1_S16384_n_0_0_1.resultIdx? (ix1 k) (column I) = some (ix1 s) ↔ I (ix1 k) = BitVec.ofNat 32 s.val := by
    rw [segLands, column_at, ← WordCmp.toInt_ofNat_of_lt (w := 32) hs]
    exact BitVec.toInt_inj
  unfold Row.hit
  by_cases hk : I (ix1 k) = BitVec.ofNat 32 s.val
  · rw [if_pos (hi.2 hk), if_pos hk, one_mul]
  · rw [if_neg (fun q => hk (hi.1 q)), if_neg hk, zero_mul]

/-- THE REFERENCE'S RESULT: per segment, the losses of its rows over the number of its rows, at least one. -/
theorem result_at (I : IVec S16384 32) (hX : ∀ r j, (X (ix2 r j) : EReal) < ⊤) (hL : ∀ r, Label (L (ix1 r))) (s : Fin 512) :
    result X L I (ix2 0 s) = Ideal.div (∑ k : Fin 16384, Row.hit (I (ix1 k)) s * Row.rowLoss (mrow X k) (L (ix1 k)))
      (max (∑ k : Fin 16384, Row.hit (I (ix1 k)) s) 1) := by
  have e : result X L I (ix2 0 s) = Ideal.div (perSegment I (lossRef X L) (ix1 s))
      (max 1 (perSegment (F := Ideal) I (broadcastInDim S16384 ![] bcast_S_S16384 (constant S_ .f32 0x3F800000#32)) (ix1 s))) := by
    unfold result
    pointwise [id]
  have hsum : perSegment I (lossRef X L) (ix1 s) = ∑ k : Fin 16384, Row.hit (I (ix1 k)) s * Row.rowLoss (mrow X k) (L (ix1 k)) := by
    rw [perSegment_at]
    refine Finset.sum_congr rfl fun k _ => ?_
    rw [lossRef_eq X L k hX hL]
  have hcount : perSegment (F := Ideal) I (broadcastInDim S16384 ![] bcast_S_S16384 (constant S_ .f32 0x3F800000#32)) (ix1 s)
      = ∑ k : Fin 16384, Row.hit (I (ix1 k)) s := by
    rw [perSegment_at]
    refine Finset.sum_congr rfl fun k _ => ?_
    exact (congrArg _ Ideal.ofBits_one_f32).trans (mul_one _)
  rw [e, hsum, hcount, max_comm]

end Cert.ReferenceIdeal.Work
-- ==== Proof.Equation.lean ====
module

public import proofs.«01_k».proof.Defs
public import proofs.«01_k».proof.Proof.KernelArray
public import proofs.«01_k».proof.Proof.RefRow

@[expose] public section

set_option maxRecDepth 16384

noncomputable section

/-! # The two results are equal under the precondition -/

namespace Cert.Equation

open Idealize.ShloMosaic Idealize.ShloMosaic.TcCoe Idealize.SL.Sem

/-- The side conditions the precondition states. -/
theorem preFacts : Cert.Pre_logits_and_labels.Facts where
  bcast_S_S16384x4096 := by decide
  bcast_S_S16384 := by decide

/-- A Boolean whose bit is one is true. -/
theorem of_bit {b : Bool} (h : BitVec.ofBool b = 1#1) : b = true := by
  cases b
  · exact absurd h (by decide)
  · rfl

/-- Both bits of a conjunction that is one are one. -/
theorem both_bits (a b : BitVec 1) (h : a &&& b = 1#1) : a = 1#1 ∧ b = 1#1 := by
  revert a b
  decide

/-- A word from minus one up to the number of columns, read signed, is minus one or a column. -/
theorem label_of_range (l : BitVec 32) (h0 : (4294967295#32).sle l = true) (h1 : l.slt 4096#32 = true) :
    Cert.ReferenceIdeal.Work.Label l := by
  rw [BitVec.sle_iff_toInt_le] at h0
  rw [BitVec.slt_iff_toInt_lt] at h1
  have e0 : (4294967295#32).toInt = -1 := by decide
  have e1 : (4096#32).toInt = 4096 := by decide
  rw [e0] at h0
  rw [e1] at h1
  have hl := l.isLt
  rw [BitVec.toInt_eq_toNat_cond] at h0 h1
  unfold Cert.ReferenceIdeal.Work.Label
  by_cases hs : 2 * l.toNat < 2 ^ 32
  · right
    rw [if_pos hs] at h1
    omega
  · left
    rw [if_neg hs] at h0
    apply BitVec.eq_of_toNat_eq
    show l.toNat = 4294967295
    omega

section Decode

variable [Cert.Pre_logits_and_labels.Facts] (X : FVec Ideal ⟨2, ![16384, 4096]⟩ .f32) (L I : IVec ⟨1, ![16384]⟩ 32)

/-- THE PRECONDITION ON THE LOGITS: no logit is plus infinity. -/
theorem logits_below (h : (Cert.Pre_logits_and_labels.fn (F := Ideal) X L I).1 = fun _ => 1#1) (r : Fin 16384) (j : Fin 4096) :
    (X (ix2 r j) : EReal) < ⊤ := by
  have e : (BitVec.ofBool (decide ((X (ix2 r j) : EReal) < Ideal.ofBits .f32 0x7F800000#32)) : BitVec 1) = 1#1 := congrFun h (ix2 r j)
  rw [Row.ofBits_posInf] at e
  exact of_decide_eq_true (of_bit e)

/-- THE PRECONDITION ON THE LABELS: every label is minus one or a column. -/
theorem labels_range (h : (Cert.Pre_logits_and_labels.fn (F := Ideal) X L I).2 = fun _ => 1#1) (r : Fin 16384) :
    Cert.ReferenceIdeal.Work.Label (L (ix1 r)) := by
  have e : BitVec.ofBool ((4294967295#32).sle (L (ix1 r))) &&& BitVec.ofBool ((L (ix1 r)).slt 4096#32) = 1#1 := congrFun h (ix1 r)
  obtain ⟨h0, h1⟩ := both_bits _ _ e
  exact label_of_range _ (of_bit h0) (of_bit h1)

end Decode

/-- THE EQUATION: where the precondition holds, the array the kernel leaves is the reference's result of the same
    arguments. -/
theorem results_eq [Cert.Pre_logits_and_labels.Facts]
    (m : (ℓ : Loc Cert.KernelIdeal.nD Cert.KernelIdeal.τ Cert.KernelIdeal.sig) → Buf (Elt Ideal) ℓ)
    (hpre : Cert.Pre_KernelIdeal_logits_and_labels m) (c : Dev Cert.KernelIdeal.nD) :
    Cert.ReferenceIdeal.Work.result (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
    = (Cert.KernelIdeal.Value.G3 m c : Vec Ideal ⟨2, ![1, 512]⟩ .f32) := by
  obtain ⟨hX, hL⟩ := hpre c
  funext p
  obtain ⟨s, rfl⟩ : ∃ s : Fin 512, p = ix2 0 s := ⟨p 1, by
    funext a
    match a with
    | ⟨0, _⟩ => exact Subsingleton.elim (α := Fin 1) _ _
    | ⟨1, _⟩ => rfl⟩
  refine (Cert.ReferenceIdeal.Work.result_at _ _ _ (logits_below _ _ _ hX) (labels_range _ _ _ hL) s).trans ?_
  exact (Cert.KernelIdeal.Work.result_at m c s).symm

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.RefTerm
public import proofs.«01_k».proof.Proof.Equation
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The precondition's side conditions. -/
instance preFacts : Cert.Pre_logits_and_labels.Facts := Cert.Equation.preFacts

/-- The kernel runs, its arguments end unchanged and every semaphore counter ends at zero. -/
theorem frameKernel : Cert.quiescent_Kernel := fun m g _ => Cert.Kernel.Gen.frame m g

/-- The same of the kernel's idealization. -/
theorem frameKernelIdeal : Cert.quiescent_KernelIdeal := fun m g _ => Cert.KernelIdeal.Gen.frame m g

/-- The same of the reference. -/
theorem frameReferenceIdeal : Cert.quiescent_ReferenceIdeal := by
  intro m g _
  exact (θ_run _ _ _).mono (fun r h => ⟨fun c => (h c).2, sem_eq_zero_of_no_sems (by decide) r.2⟩) (Cert.ReferenceIdeal.Value.run m g)

/-- EQUAL RESULTS: under the precondition the kernel's idealization and the reference end with equal results. -/
theorem algebraic : Cert.algebraic_KernelIdeal_ReferenceIdeal_pre_logits_and_labels := by
  pair_intro
  · run_from Cert.KernelIdeal.Value.run m g
  · refine (θ_run _ _ _).mono (fun r h c => ⟨(h c).1.trans ?_, (h c).2⟩) (Cert.ReferenceIdeal.Value.run m' g')
    rw [Cert.ReferenceIdeal.Work.res_eq]
    obtain ⟨h0, h1, h2⟩ := hagree c
    rw [h0, h1, h2]
    exact Cert.Equation.results_eq m hpre c

/-- The whole claim. -/
theorem claim : Cert.Claim :=
  ⟨Cert.Kernel.Gen.facts, Cert.KernelIdeal.Gen.facts, Cert.ReferenceIdeal.Gen.facts, preFacts,
    frameKernel, frameKernelIdeal, fun m g _ => frameKernelIdeal m g trivial, frameReferenceIdeal,
    fun m g _ => frameReferenceIdeal m g trivial, trivial, algebraic⟩

end Cert.Proof

end
